-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1x1024 : Shape := ⟨4, ![4, 8192, 1, 1024]⟩
abbrev S4x128x1x1024 : Shape := ⟨4, ![4, 128, 1, 1024]⟩
abbrev S1x4096x1x128 : Shape := ⟨4, ![1, 4096, 1, 128]⟩
abbrev S1x128x1x128 : Shape := ⟨4, ![1, 128, 1, 128]⟩
abbrev S128x128 : Shape := ⟨2, ![128, 128]⟩
abbrev S4096x128 : Shape := ⟨2, ![4096, 128]⟩
abbrev S256x2x8x128 : Shape := ⟨4, ![256, 2, 8, 128]⟩
abbrev S256x1x8x128 : Shape := ⟨4, ![256, 1, 8, 128]⟩
abbrev S256x8x128 : Shape := ⟨3, ![256, 8, 128]⟩
abbrev S16x128 : Shape := ⟨2, ![16, 128]⟩
abbrev S8x128 : Shape := ⟨2, ![8, 128]⟩
abbrev S32x128 : Shape := ⟨2, ![32, 128]⟩
abbrev S128x2x16x128 : Shape := ⟨4, ![128, 2, 16, 128]⟩
abbrev S128x1x16x128 : Shape := ⟨4, ![128, 1, 16, 128]⟩
abbrev S128x16x128 : Shape := ⟨3, ![128, 16, 128]⟩
abbrev S64x128 : Shape := ⟨2, ![64, 128]⟩
abbrev S64x2x32x128 : Shape := ⟨4, ![64, 2, 32, 128]⟩
abbrev S64x1x32x128 : Shape := ⟨4, ![64, 1, 32, 128]⟩
abbrev S64x32x128 : Shape := ⟨3, ![64, 32, 128]⟩
abbrev S32x2x64x128 : Shape := ⟨4, ![32, 2, 64, 128]⟩
abbrev S32x1x64x128 : Shape := ⟨4, ![32, 1, 64, 128]⟩
abbrev S32x64x128 : Shape := ⟨3, ![32, 64, 128]⟩
abbrev S256x128 : Shape := ⟨2, ![256, 128]⟩
abbrev S512x128 : Shape := ⟨2, ![512, 128]⟩
abbrev S2048x128 : Shape := ⟨2, ![2048, 128]⟩
abbrev S1024x128 : Shape := ⟨2, ![1024, 128]⟩
abbrev S16x2x64x128 : Shape := ⟨4, ![16, 2, 64, 128]⟩
abbrev S16x1x64x128 : Shape := ⟨4, ![16, 1, 64, 128]⟩
abbrev S16x64x128 : Shape := ⟨3, ![16, 64, 128]⟩
abbrev S32x2x32x128 : Shape := ⟨4, ![32, 2, 32, 128]⟩
abbrev S32x1x32x128 : Shape := ⟨4, ![32, 1, 32, 128]⟩
abbrev S32x32x128 : Shape := ⟨3, ![32, 32, 128]⟩
abbrev S64x2x16x128 : Shape := ⟨4, ![64, 2, 16, 128]⟩
abbrev S64x1x16x128 : Shape := ⟨4, ![64, 1, 16, 128]⟩
abbrev S64x16x128 : Shape := ⟨3, ![64, 16, 128]⟩
abbrev S128x2x8x128 : Shape := ⟨4, ![128, 2, 8, 128]⟩
abbrev S128x1x8x128 : Shape := ⟨4, ![128, 1, 8, 128]⟩
abbrev S128x8x128 : Shape := ⟨3, ![128, 8, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S64x2x8x128 : Shape := ⟨4, ![64, 2, 8, 128]⟩
abbrev S64x1x8x128 : Shape := ⟨4, ![64, 1, 8, 128]⟩
abbrev S64x8x128 : Shape := ⟨3, ![64, 8, 128]⟩
abbrev S1024x1 : Shape := ⟨2, ![1024, 1]⟩
abbrev S1x128 : Shape := ⟨2, ![1, 128]⟩
abbrev S1023x128 : Shape := ⟨2, ![1023, 128]⟩
abbrev S2x128 : Shape := ⟨2, ![2, 128]⟩
abbrev S1022x128 : Shape := ⟨2, ![1022, 128]⟩
abbrev S4x128 : Shape := ⟨2, ![4, 128]⟩
abbrev S1020x128 : Shape := ⟨2, ![1020, 128]⟩
abbrev S128x1x128 : Shape := ⟨3, ![128, 1, 128]⟩
abbrev S1x2x64x128 : Shape := ⟨4, ![1, 2, 64, 128]⟩
abbrev S1x1x64x128 : Shape := ⟨4, ![1, 1, 64, 128]⟩
abbrev S1x64x128 : Shape := ⟨3, ![1, 64, 128]⟩
abbrev S2x2x32x128 : Shape := ⟨4, ![2, 2, 32, 128]⟩
abbrev S2x1x32x128 : Shape := ⟨4, ![2, 1, 32, 128]⟩
abbrev S2x32x128 : Shape := ⟨3, ![2, 32, 128]⟩
abbrev S4x2x16x128 : Shape := ⟨4, ![4, 2, 16, 128]⟩
abbrev S4x1x16x128 : Shape := ⟨4, ![4, 1, 16, 128]⟩
abbrev S4x16x128 : Shape := ⟨3, ![4, 16, 128]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S128x1 : Shape := ⟨2, ![128, 1]⟩
abbrev S124x128 : Shape := ⟨2, ![124, 128]⟩
abbrev S126x128 : Shape := ⟨2, ![126, 128]⟩
abbrev S127x128 : Shape := ⟨2, ![127, 128]⟩

abbrev nBuf : Space → Nat
  | .hbm => 2
  | .vmem => 4
  | .smem => 0
  | _ => 0

abbrev bufTy : (tb : Table) → Fin (tcTables nBuf tb) → BufTy
  | .hbm, ⟨0, _⟩ => ⟨S4x8192x1x1024, .f32⟩
  | .hbm, ⟨1, _⟩ => ⟨S4x128x1x1024, .f32⟩
  | .local _ .vmem, ⟨0, _⟩ => ⟨S1x4096x1x128, .f32⟩
  | .local _ .vmem, ⟨1, _⟩ => ⟨S1x4096x1x128, .f32⟩
  | .local _ .vmem, ⟨2, _⟩ => ⟨S1x128x1x128, .f32⟩
  | .local _ .vmem, ⟨3, _⟩ => ⟨S1x128x1x128, .f32⟩
  | _, _ => ⟨S4x8192x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x4096x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]
-- ==== ReferenceIdeal.lean ====
abbrev S4x8192x1x1024 : Shape := ⟨4, ![4, 8192, 1, 1024]⟩
abbrev S4x1024x1x8192 : Shape := ⟨4, ![4, 1024, 1, 8192]⟩
abbrev S4x1024x1x128 : Shape := ⟨4, ![4, 1024, 1, 128]⟩
abbrev S4x128x1x1024 : Shape := ⟨4, ![4, 128, 1, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x8192x1x1024, .f32⟩
  | .hbm, ⟨1, _⟩ => ⟨S4x1024x1x8192, .f32⟩
  | .hbm, ⟨2, _⟩ => ⟨S4x1024x1x128, .f32⟩
  | .hbm, ⟨3, _⟩ => ⟨S4x1024x1x128, .i32⟩
  | .hbm, ⟨4, _⟩ => ⟨S4x128x1x1024, .f32⟩
  | _, _ => ⟨S4x8192x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Stages.lean ====
/- The body of the kernel as a composition of named stages over vectors of `r` rows of 128 lanes: cutting rows out,
   reversing the order of the groups of 8 rows, one compare-and-exchange stage at a row distance (in its two
   spellings: through a four-axis reshape, and through slices laid end to end), one merge level, and the two folding
   stages. Nothing here depends on how floats are read. -/
module

public import Idealize.ShloMosaic.Lib.Pipeline.Value
public import Mathlib.Tactic.Ring

@[expose] public section

noncomputable section

namespace Cert.TopRows

open Idealize.ShloMosaic

variable {F : FTy → Type} [FloatOps F]

/-- `r` rows of 128 lanes. -/
abbrev Sh (r : ℕ) : Shape := ⟨2, ![r, 128]⟩

theorem slices_rows {r n o : ℕ} (h : o + n ≤ r) : (Sh r).Slices ![o, 0] (Sh n) := by
  refine ⟨rfl, fun a => ?_⟩
  fin_cases a
  · exact h
  · exact Nat.le_refl _

/-- The `n` rows from row `o` on. -/
def rows {r : ℕ} (n o : ℕ) (h : o + n ≤ r) (x : FVec F (Sh r) .f32) : FVec F (Sh n) .f32 :=
  extractStridedSlice (Sh n) ![o, 0] x (slices_rows h)

theorem concatenates_rows {α : Type} {N K r : ℕ} (hN : 2 ≤ N) (h : N * K = r) (f : Fin N → ((Sh K).Idx → α)) :
    Shape.Concatenates ((List.ofFn fun n : Fin N => (⟨Sh K, f n⟩ : (s : Shape) × (s.Idx → α))).map (·.1)) (Sh r) 0 := by
  have e : (List.ofFn fun n : Fin N => (⟨Sh K, f n⟩ : (s : Shape) × (s.Idx → α))).map (·.1) = List.replicate N (Sh K) := by
    refine List.ext_getElem (by simp) fun k h1 h2 => ?_
    simp
  rw [e]
  refine ⟨by simpa using hN, fun s hs => ?_, ?_⟩
  · obtain rfl := List.eq_of_mem_replicate hs
    refine ⟨rfl, fun b hb => ?_⟩
    fin_cases b
    · exact absurd rfl hb
    · rfl
  · rw [List.map_replicate, List.sum_replicate]
    exact h

/-- `N` vectors of `K` rows laid end to end. -/
def stack {N K r : ℕ} (hN : 2 ≤ N) (h : N * K = r) (f : Fin N → FVec F (Sh K) .f32) : FVec F (Sh r) .f32 :=
  concatenate (Sh r) 0 (List.ofFn fun n : Fin N => ⟨Sh K, f n⟩) (concatenates_rows hN h f)

/-- The groups of 8 rows in the reverse order, the rows of a group kept in order. -/
def rev8 {r : ℕ} (q : ℕ) (hq : 2 ≤ q) (h : q * 8 = r) (x : FVec F (Sh r) .f32) : FVec F (Sh r) .f32 :=
  stack hq h fun k => rows 8 (8 * (q - 1 - k.val)) (by have := k.isLt; omega) x

/-- The elementwise maximum for an even number, the minimum for an odd one. -/
def mm (b : ℕ) {s : Shape} (x y : FVec F s .f32) : FVec F s .f32 :=
  match b % 2 with
  | 0 => maximumf x y
  | _ => minimumf x y

theorem piece_le {G K r n : ℕ} (h : 2 * G * K = r) (hn : n < 2 * G) : 2 * K * (n / 2) + K + K ≤ r := by
  subst h
  have h1 : n / 2 + 1 ≤ G := by omega
  have h2 : 2 * K * (n / 2 + 1) ≤ 2 * K * G := Nat.mul_le_mul_left _ h1
  have e : 2 * G * K = 2 * K * G := by ring
  rw [Nat.mul_add] at h2
  omega

/-- One merge level: in every group of `2 K` rows, the first `K` against the last `K` with their groups of 8 reversed;
    the maxima, then the minima. -/
def mergeLevel {r : ℕ} (G K q : ℕ) (hG : 2 ≤ 2 * G) (hq : 2 ≤ q) (hK : q * 8 = K) (h : 2 * G * K = r)
    (x : FVec F (Sh r) .f32) : FVec F (Sh r) .f32 :=
  stack hG h fun n =>
    mm n.val (rows K (2 * K * (n.val / 2)) (by have := piece_le h n.isLt; omega) x)
      (rev8 q hq hK (rows K (2 * K * (n.val / 2) + K) (by have := piece_le h n.isLt; omega) x))

/-- One compare-and-exchange stage at distance `K` rows, as slices laid end to end. -/
def cleanWide {r : ℕ} (G K : ℕ) (hG : 2 ≤ 2 * G) (h : 2 * G * K = r) (x : FVec F (Sh r) .f32) : FVec F (Sh r) .f32 :=
  stack hG h fun n =>
    mm n.val (rows K (2 * K * (n.val / 2)) (by have := piece_le h n.isLt; omega) x)
      (rows K (2 * K * (n.val / 2) + K) (by have := piece_le h n.isLt; omega) x)

/-- `m` groups of `c` blocks of `K` rows of 128 lanes. -/
abbrev Sh4 (m c K : ℕ) : Shape := ⟨4, ![m, c, K, 128]⟩
/-- `m` blocks of `K` rows of 128 lanes. -/
abbrev Sh3 (m K : ℕ) : Shape := ⟨3, ![m, K, 128]⟩

theorem numel_sh (r : ℕ) : (Sh r).numel = r * 128 := by simp [Shape.numel, Fin.prod_univ_succ]
theorem numel_sh3 (m K : ℕ) : (Sh3 m K).numel = m * (K * 128) := by simp [Shape.numel, Fin.prod_univ_succ]
theorem numel_sh4 (m c K : ℕ) : (Sh4 m c K).numel = m * (c * (K * 128)) := by simp [Shape.numel, Fin.prod_univ_succ]

theorem casts_2_4 {m K r : ℕ} (h : 2 * m * K = r) : (Sh r).ShapeCasts (Sh4 m 2 K) := by
  show (Sh4 m 2 K).numel = (Sh r).numel
  rw [numel_sh, numel_sh4, ← h]; ring
theorem casts_4_2 {m K r : ℕ} (h : 2 * m * K = r) : (Sh4 m 2 K).ShapeCasts (Sh r) := (casts_2_4 h).symm
theorem casts_4_3 (m K : ℕ) : (Sh4 m 1 K).ShapeCasts (Sh3 m K) := by
  show (Sh3 m K).numel = (Sh4 m 1 K).numel
  rw [numel_sh3, numel_sh4]; ring
theorem casts_3_4 (m K : ℕ) : (Sh3 m K).ShapeCasts (Sh4 m 1 K) := (casts_4_3 m K).symm
theorem slices_half (m K c : ℕ) (hc : c < 2) : (Sh4 m 2 K).Slices ![0, c, 0, 0] (Sh4 m 1 K) := by
  refine ⟨rfl, fun a => ?_⟩
  fin_cases a
  · exact Nat.le_of_eq (Nat.zero_add _)
  · exact hc
  · exact Nat.le_of_eq (Nat.zero_add _)
  · exact Nat.le_of_eq (Nat.zero_add _)
theorem concatenates_half (m K : ℕ) : Shape.Concatenates [Sh4 m 1 K, Sh4 m 1 K] (Sh4 m 2 K) 1 := by
  refine ⟨Nat.le_refl 2, fun s hs => ?_, rfl⟩
  have hs' : s = Sh4 m 1 K := by simpa using hs
  subst hs'
  refine ⟨rfl, fun b hb => ?_⟩
  fin_cases b
  · rfl
  · exact absurd rfl hb
  · rfl
  · rfl

/-- The first (`c = 0`) or second (`c = 1`) block of every group. -/
def half (m K c : ℕ) (hc : c < 2) (y : FVec F (Sh4 m 2 K) .f32) : FVec F (Sh3 m K) .f32 :=
  shapeCast (Sh3 m K) (extractStridedSlice (Sh4 m 1 K) ![0, c, 0, 0] y (slices_half m K c hc)) (casts_4_3 m K)

/-- One compare-and-exchange stage at distance `K` rows, through the four-axis reshape. -/
def clean {r : ℕ} (m K : ℕ) (h : 2 * m * K = r) (x : FVec F (Sh r) .f32) : FVec F (Sh r) .f32 :=
  have y : FVec F (Sh4 m 2 K) .f32 := shapeCast (Sh4 m 2 K) x (casts_2_4 h)
  have a : FVec F (Sh3 m K) .f32 := half m K 0 (by decide) y
  have b : FVec F (Sh3 m K) .f32 := half m K 1 (by decide) y
  shapeCast (Sh r)
    (concatenate (Sh4 m 2 K) 1
      [⟨Sh4 m 1 K, shapeCast (Sh4 m 1 K) (maximumf a b) (casts_3_4 m K)⟩,
       ⟨Sh4 m 1 K, shapeCast (Sh4 m 1 K) (minimumf a b) (casts_3_4 m K)⟩] (concatenates_half m K))
    (casts_4_2 h)

theorem concatenates_two {a b r : ℕ} (h : a + b = r) : Shape.Concatenates [Sh a, Sh b] (Sh r) 0 := by
  refine ⟨Nat.le_refl 2, fun s hs => ?_, ?_⟩
  · have hs' : s = Sh a ∨ s = Sh b := by simpa using hs
    rcases hs' with rfl | rfl
    · refine ⟨rfl, fun c hc => ?_⟩
      fin_cases c
      · exact absurd rfl hc
      · rfl
    · refine ⟨rfl, fun c hc => ?_⟩
      fin_cases c
      · exact absurd rfl hc
      · rfl
  · show a + (b + 0) = r
    omega

/-- The rows rotated so that row `k` of the result is row `k + a`, the first `a` rows coming last. -/
def roll {r : ℕ} (a b : ℕ) (h : b + a = r) (x : FVec F (Sh r) .f32) : FVec F (Sh r) .f32 :=
  concatenate (Sh r) 0
    [⟨Sh b, rows b a (by omega) x⟩, ⟨Sh a, rows a 0 (by omega) x⟩] (concatenates_two h)

/-- One column of `r` words. -/
abbrev Col (r : ℕ) : Shape := ⟨2, ![r, 1]⟩

theorem iotas_col (r : ℕ) : (Col r).Iotas .tc 32 [0] := by
  refine ⟨by simp, fun _ => ⟨.inr rfl, Nat.le_refl 2⟩, fun h => absurd rfl h⟩
theorem broadcasts_col (r : ℕ) : (Col r).Broadcasts (Sh r) := by
  refine ⟨Nat.le_refl 2, fun a => ?_⟩
  fin_cases a
  · exact .inr fun _ => rfl
  · exact .inl rfl

/-- The row number of every row. -/
def rowIx (r : ℕ) : IVec (Col r) 32 := iota .tc (Col r) 32 [0] (iotas_col r)

/-- Whether the bits `w` of the row number are not all clear. -/
def bitOn (r : ℕ) (w : BitVec 32) : IVec (Col r) 1 :=
  cmpi .ne (andi (rowIx r) (broadcast (Col r) w)) (broadcast (Col r) 0#32)

/-- A choice by row between two vectors. -/
def pick {r : ℕ} (c : IVec (Col r) 1) (x y : FVec F (Sh r) .f32) : FVec F (Sh r) .f32 :=
  select (broadcastTo (Sh r) (shapeCast (Col r) c rfl) (broadcasts_col r)) x y

/-- Every row exchanged with the one `d` rows before it where the row number's bit `w` is set, after it where not. -/
def partner {r : ℕ} (d e : ℕ) (w : BitVec 32) (h : e + d = r) (x : FVec F (Sh r) .f32) : FVec F (Sh r) .f32 :=
  pick (bitOn r w) (roll e d (by omega) x) (roll d e h x)

/-- One compare-and-exchange stage at a distance below 8 rows: the maximum where the row's bit is clear, the minimum
    where it is set. -/
def cleanNear {r : ℕ} (d e : ℕ) (w : BitVec 32) (h : e + d = r) (x : FVec F (Sh r) .f32) : FVec F (Sh r) .f32 :=
  pick
    (xori (cmpi .eq (andi (shrsi (rowIx r) (broadcast (Col r) 7#32)) (broadcast (Col r) 1#32)) (broadcast (Col r) 0#32))
      (bitOn r w))
    (maximumf x (partner d e w h x)) (minimumf x (partner d e w h x))

/-! ### The stages in their order -/

/-- The stages at distance 64, 32, 16, 8. -/
def cleans64 {r : ℕ} (G : ℕ) (h : 2 * G * 64 = r) (x : FVec F (Sh r) .f32) : FVec F (Sh r) .f32 :=
  clean (8 * G) 8 (by omega) (clean (4 * G) 16 (by omega) (clean (2 * G) 32 (by omega) (clean G 64 h x)))

/-- The stages at distance 128 and below. -/
def cleans128 {r : ℕ} (G : ℕ) (hG : 2 ≤ 2 * G) (h : 2 * G * 128 = r) (x : FVec F (Sh r) .f32) : FVec F (Sh r) .f32 :=
  cleans64 (2 * G) (by omega) (cleanWide G 128 hG h x)

/-- The stages at distance 256 and below. -/
def cleans256 {r : ℕ} (G : ℕ) (hG : 2 ≤ 2 * G) (h : 2 * G * 256 = r) (x : FVec F (Sh r) .f32) : FVec F (Sh r) .f32 :=
  cleans128 (2 * G) (by omega) (by omega) (cleanWide G 256 hG h x)

/-- The stages at distance 512 and below. -/
def cleans512 {r : ℕ} (G : ℕ) (hG : 2 ≤ 2 * G) (h : 2 * G * 512 = r) (x : FVec F (Sh r) .f32) : FVec F (Sh r) .f32 :=
  cleans256 (2 * G) (by omega) (by omega) (cleanWide G 512 hG h x)

/-- The 4096 rows with every run of 128 rows of one residue modulo 8 put in descending order. -/
def sortRuns (x : FVec F (Sh 4096) .f32) : FVec F (Sh 4096) .f32 :=
  have x1 : FVec F (Sh 4096) .f32 := clean 256 8 rfl x
  have x2 : FVec F (Sh 4096) .f32 := clean 256 8 rfl (mergeLevel 128 16 2 (by decide) (by decide) rfl rfl x1)
  have x3 : FVec F (Sh 4096) .f32 :=
    clean 256 8 rfl (clean 128 16 rfl (mergeLevel 64 32 4 (by decide) (by decide) rfl rfl x2))
  have x4 : FVec F (Sh 4096) .f32 :=
    clean 256 8 rfl (clean 128 16 rfl (clean 64 32 rfl (mergeLevel 32 64 8 (by decide) (by decide) rfl rfl x3)))
  have x5 : FVec F (Sh 4096) .f32 := cleans64 32 rfl (mergeLevel 16 128 16 (by decide) (by decide) rfl rfl x4)
  have x6 : FVec F (Sh 4096) .f32 := cleans128 16 (by decide) rfl (mergeLevel 8 256 32 (by decide) (by decide) rfl rfl x5)
  cleans256 8 (by decide) rfl (mergeLevel 4 512 64 (by decide) (by decide) rfl rfl x6)

/-- 4096 rows folded onto 2048, the kept half of every run back in order. -/
def fold4096 (x : FVec F (Sh 4096) .f32) : FVec F (Sh 2048) .f32 :=
  have b : FVec F (Sh 2048) .f32 := rows 2048 2048 (by decide) x
  cleans512 2 (by decide) rfl
    (maximumf (rows 2048 0 (by decide) x)
      (stack (K := 1024) (N := 2) (by decide) rfl fun k =>
        rev8 128 (by decide) rfl (rows 1024 (1024 * k.val) (by have := k.isLt; omega) b)))

/-- 2048 rows folded onto 1024. -/
def fold2048 (x : FVec F (Sh 2048) .f32) : FVec F (Sh 1024) .f32 :=
  cleans512 1 (by decide) rfl
    (maximumf (rows 1024 0 (by decide) x) (rev8 128 (by decide) rfl (rows 1024 1024 (by decide) x)))

/-- The runs of two residues whose numbers differ in one bit folded onto one another. -/
def foldBit (d e : ℕ) (w : BitVec 32) (h : e + d = 1024) (x : FVec F (Sh 1024) .f32) : FVec F (Sh 1024) .f32 :=
  cleans512 1 (by decide) rfl (maximumf x (rev8 128 (by decide) rfl (partner d e w h x)))

theorem slices_first : (Sh3 128 8).Slices ![0, 0, 0] (Sh3 128 1) := by
  refine ⟨rfl, fun a => ?_⟩
  fin_cases a
  · exact Nat.le_refl _
  · exact (by decide : 0 + 1 ≤ 8)
  · exact Nat.le_refl _

/-- The 128 greatest of a block's 4096 rows, in every lane, in ascending order. -/
def blockTop (x : FVec F (Sh 4096) .f32) : FVec F (Sh 128) .f32 :=
  have x1 : FVec F (Sh 1024) .f32 := fold2048 (fold4096 (sortRuns x))
  have x2 : FVec F (Sh 1024) .f32 := foldBit 1 1023 1#32 rfl x1
  have x3 : FVec F (Sh 1024) .f32 := foldBit 2 1022 2#32 rfl x2
  have x4 : FVec F (Sh 1024) .f32 := foldBit 4 1020 4#32 rfl x3
  have y : FVec F (Sh3 128 8) .f32 :=
    shapeCast (Sh3 128 8) (rev8 128 (by decide) rfl x4) (by rw [Shape.ShapeCasts, numel_sh, numel_sh3])
  shapeCast (Sh 128) (extractStridedSlice (Sh3 128 1) ![0, 0, 0] y slices_first)
    (by rw [Shape.ShapeCasts, numel_sh, numel_sh3])

/-- The running 128 greatest (descending) and a block's 128 greatest (ascending) merged: the 128 greatest of both,
    descending. -/
def mergeTop (acc cand : FVec F (Sh 128) .f32) : FVec F (Sh 128) .f32 :=
  cleanNear 1 127 1#32 rfl (cleanNear 2 126 2#32 rfl (cleanNear 4 124 4#32 rfl
    (cleans64 1 rfl (maximumf acc cand))))

end Cert.TopRows

end
-- ==== Proof.RunValue.lean ====
/- What the idealized kernel's body leaves in its output block, over the named stages. -/
module

public import proofs.«01_k».proof.Proof.Gen.KernelIdeal.Frame
public import proofs.«01_k».proof.Proof.Stages
public import Idealize.ShloMosaic.Lib.Tactic

@[expose] public section

noncomputable section

namespace Cert.KernelIdeal.Gen

open Idealize.ShloMosaic Idealize.ShloMosaic.TcCoe Idealize.SL.Sem
open Idealize.ShloMosaic.Pipeline (Dat)

variable {F : FTy → Type} [FloatOps F]

/-- What the body stores: the accumulator merged with the block's greatest. -/
def stepVal (x : Vec F S1x4096x1x128 .f32) (acc : Vec F S1x128x1x128 .f32) : Vec F S1x128x1x128 .f32 :=
  shapeCast S1x128x1x128
    (TopRows.mergeTop (shapeCast S128x128 acc shapeCasts_S1x128x1x128_S128x128)
      (TopRows.blockTop (shapeCast S4096x128 x shapeCasts_S1x4096x1x128_S4096x128)))
    shapeCasts_S128x128_S1x128x1x128

/-- What the body stores at the first step of an output block: the floor everywhere. -/
def floorVal : Vec F S1x128x1x128 .f32 :=
  shapeCast S1x128x1x128 (broadcast S128x128 (Scalar.ofBits .f32 0xFF800000#32 : F .f32)) shapeCasts_S128x128_S1x128x1x128

set_option maxRecDepth 65536 in
/-- The one piece a later step leaves. -/
theorem run_B (c : Dev nD) (i : grid0.Coords) (arg3 : Memref sig .tc .vmem S1x4096x1x128 .f32) (harg3 : arg3.IsWhole)
    (arg4 : Memref sig .tc .vmem S1x128x1x128 .f32) (harg4 : arg4.IsWhole) (hc0 : ¬cond0_0 i)
    (x0 : Vec F S1x4096x1x128 .f32) (xo1 : Vec F S1x128x1x128 .f32) :
    (kernelRun0_B c i arg3 harg3 arg4 harg4 hc0 x0 xo1).1 =
      [⟨Rect.unit (s := S1x128x1x128) ![0, 0, 0, 0] S1x128x1x128.size inb_S1x128x1x128_S1x128x1x128_0_0_0_0,
        stepVal
          (View.readAt (Elt F) arg3.view (Rect.unit (s := S1x4096x1x128) ![0, 0, 0, 0] S1x4096x1x128.size
            inb_S1x4096x1x128_S1x4096x1x128_0_0_0_0).toLoadRect (harg3.unread x0))
          (View.readAt (Elt F) arg4.view (Rect.unit (s := S1x128x1x128) ![0, 0, 0, 0] S1x128x1x128.size
            inb_S1x128x1x128_S1x128x1x128_0_0_0_0).toLoadRect (harg4.unread xo1))⟩] := by
  sl_kernel_rfl

set_option maxRecDepth 65536 in
/-- The two pieces the first step of an output block leaves: its result over the floor it started from. -/
theorem run_A (c : Dev nD) (i : grid0.Coords) (arg3 : Memref sig .tc .vmem S1x4096x1x128 .f32) (harg3 : arg3.IsWhole)
    (arg4 : Memref sig .tc .vmem S1x128x1x128 .f32) (harg4 : arg4.IsWhole) (hc0 : cond0_0 i)
    (x0 : Vec F S1x4096x1x128 .f32) :
    (kernelRun0_A c i arg3 harg3 arg4 harg4 hc0 x0).1 =
      [⟨Rect.unit (s := S1x128x1x128) ![0, 0, 0, 0] S1x128x1x128.size inb_S1x128x1x128_S1x128x1x128_0_0_0_0,
        stepVal
          (View.readAt (Elt F) arg3.view (Rect.unit (s := S1x4096x1x128) ![0, 0, 0, 0] S1x4096x1x128.size
            inb_S1x4096x1x128_S1x4096x1x128_0_0_0_0).toLoadRect (harg3.unread x0))
          (View.readCov arg4.view
            [(⟨Rect.unit (s := S1x128x1x128) ![0, 0, 0, 0] S1x128x1x128.size inb_S1x128x1x128_S1x128x1x128_0_0_0_0,
              floorVal⟩ : View.Piece (Elt F) S1x128x1x128 .f32)]
            (Rect.unit (s := S1x128x1x128) ![0, 0, 0, 0] S1x128x1x128.size
              inb_S1x128x1x128_S1x128x1x128_0_0_0_0).toLoadRect)⟩,
       ⟨Rect.unit (s := S1x128x1x128) ![0, 0, 0, 0] S1x128x1x128.size inb_S1x128x1x128_S1x128x1x128_0_0_0_0,
        floorVal⟩] := by
  sl_kernel_rfl

theorem hz : (![0, 0, 0, 0] : Fin 4 → Nat) = fun _ => 0 := funext fun a => by fin_cases a <;> rfl

/-- A later step leaves the accumulator it found merged with the block's greatest. -/
theorem out_B (c : Dev nD) (i : grid0.Coords) (arg3 : Memref sig .tc .vmem S1x4096x1x128 .f32) (harg3 : arg3.IsWhole)
    (arg4 : Memref sig .tc .vmem S1x128x1x128 .f32) (harg4 : arg4.IsWhole) (hc0 : ¬cond0_0 i)
    (x0 : Vec F S1x4096x1x128 .f32) (xo1 : Vec F S1x128x1x128 .f32) :
    out0_B_1 c i arg3 harg3 arg4 harg4 hc0 x0 xo1 = stepVal x0 xo1 := by
  unfold out0_B_1
  rw [View.read_writes_eq_canon _ _ _ (cover0_B_1 c i arg3 harg3 arg4 harg4 hc0 x0 xo1), run_B,
    View.canon_unit_zero hz]
  simp only [View.readAt_eq_ld, harg3.read_unread, harg4.read_unread, View.ld_unit_zero (S := S1x4096x1x128) hz,
    View.ld_unit_zero (S := S1x128x1x128) hz]

/-- The first step leaves the floor merged with the block's greatest. -/
theorem out_A (c : Dev nD) (i : grid0.Coords) (arg3 : Memref sig .tc .vmem S1x4096x1x128 .f32) (harg3 : arg3.IsWhole)
    (arg4 : Memref sig .tc .vmem S1x128x1x128 .f32) (harg4 : arg4.IsWhole) (hc0 : cond0_0 i)
    (x0 : Vec F S1x4096x1x128 .f32) :
    out0_A_1 c i arg3 harg3 arg4 harg4 hc0 x0 = stepVal x0 floorVal := by
  unfold out0_A_1
  rw [View.read_writes_eq_canon _ _ _ (cover0_A_1 c i arg3 harg3 arg4 harg4 hc0 x0), run_A,
    View.canon_cons_unit_zero (S := S1x128x1x128) hz, View.readCov_unit_zero (S := S1x128x1x128) _ hz]
  simp only [View.readAt_eq_ld, harg3.read_unread, View.ld_unit_zero (S := S1x4096x1x128) hz]

variable (m : (ℓ : Loc nD τ sig) → Buf (Elt F) ℓ)

/-- After the second step of an output block its buffer holds both input blocks' greatest merged onto the floor. -/
theorem outsAt_odd (c : Dev nD) (t : Fin cfg0.N) (h : t.val % 2 = 1) (h' : t.val - 1 < cfg0.N) :
    outsAt0 m c t.val t.isLt = stepVal (iblk m c 0 t) (stepVal (iblk m c 0 ⟨t.val - 1, h'⟩) floorVal) := by
  rw [outsAt0_B m c t (by omega), out_B]
  have e := outsAt0_A m c ⟨t.val - 1, h'⟩ (by dsimp only; omega)
  rw [out_A] at e
  exact congrArg (stepVal (iblk m c 0 t)) e

end Cert.KernelIdeal.Gen

end
-- ==== Proof.Bitonic.lean ====
/- Sequences of truth values under compare-and-exchange stages: on truth values a maximum is "or", a minimum "and".
   A sequence that is one run of equal values inside the other value (`Bit`) is put in order by the stages at
   distances `2^(K-1), …, 1` (`chain_sorted`); two ordered halves, one read backwards, make two such sequences
   (`Bit.merge_max`, `Bit.merge_min`). -/
module

public import Mathlib.Data.Nat.Count
public import Mathlib.Tactic.Ring

@[expose] public section

namespace Cert.TopRows

/-- From position `b` on, the `n` values are true on exactly the first `c`. -/
def Srt (n : ℕ) (f : ℕ → Prop) (b c : ℕ) : Prop := c ≤ n ∧ ∀ k, k < n → (f (b + k) ↔ k < c)

/-- From position `b` on, `c` of the `n` values are true, and the true ones, or the false ones, are consecutive. -/
def Bit (n : ℕ) (f : ℕ → Prop) (b c : ℕ) : Prop :=
  ∃ lo hi, lo ≤ hi ∧ hi ≤ n ∧
    (((∀ k, k < n → (f (b + k) ↔ lo ≤ k ∧ k < hi)) ∧ c = hi - lo) ∨
     ((∀ k, k < n → (f (b + k) ↔ ¬(lo ≤ k ∧ k < hi))) ∧ c = n - (hi - lo)))

/-- One compare-and-exchange stage at distance `d`: "or" in the first half of every `2 d` positions, "and" in the second. -/
def cl (d : ℕ) (f : ℕ → Prop) (k : ℕ) : Prop :=
  if k / d % 2 = 0 then f k ∨ f (k + d) else f (k - d) ∧ f k

/-- The first step of a merge of two runs of `d`: as `cl d`, the second half read backwards. -/
def mg (d : ℕ) (f : ℕ → Prop) (k : ℕ) : Prop :=
  if k / d % 2 = 0 then f k ∨ f (k / d * d + d + (d - 1 - k % d)) else f (k / d * d - d + k % d) ∧ f (k / d * d + (d - 1 - k % d))

/-- The stages at distances `2^(K-1), …, 1`. -/
def chain : ℕ → (ℕ → Prop) → ℕ → Prop
  | 0, f => f
  | K + 1, f => chain K (cl (2 ^ K) f)

theorem Srt.count_le {n : ℕ} {f : ℕ → Prop} {b c : ℕ} (h : Srt n f b c) : c ≤ n := h.1

theorem or_half {n : ℕ} {f g : ℕ → Prop} {b c : ℕ} (h : Bit (2 * n) f b c)
    (hg : ∀ k, k < n → (g (b + k) ↔ f (b + k) ∨ f (b + (n + k)))) : Bit n g b (min c n) := by
  obtain ⟨lo, hi, h1, h2, ⟨hf, hc⟩ | ⟨hf, hc⟩⟩ := h
  · by_cases a1 : hi ≤ n
    · refine ⟨lo, hi, h1, a1, .inl ⟨fun k hk => ?_, by omega⟩⟩
      rw [hg k hk, hf k (by omega), hf (n + k) (by omega)]; omega
    · by_cases a2 : n ≤ lo
      · refine ⟨lo - n, hi - n, by omega, by omega, .inl ⟨fun k hk => ?_, by omega⟩⟩
        rw [hg k hk, hf k (by omega), hf (n + k) (by omega)]; omega
      · by_cases a3 : n ≤ hi - lo
        · refine ⟨0, n, by omega, by omega, .inl ⟨fun k hk => ?_, by omega⟩⟩
          rw [hg k hk, hf k (by omega), hf (n + k) (by omega)]; omega
        · refine ⟨hi - n, lo, by omega, by omega, .inr ⟨fun k hk => ?_, by omega⟩⟩
          rw [hg k hk, hf k (by omega), hf (n + k) (by omega)]; omega
  · by_cases a1 : hi ≤ n
    · refine ⟨0, n, by omega, by omega, .inl ⟨fun k hk => ?_, by omega⟩⟩
      rw [hg k hk, hf k (by omega), hf (n + k) (by omega)]; omega
    · by_cases a2 : n ≤ lo
      · refine ⟨0, n, by omega, by omega, .inl ⟨fun k hk => ?_, by omega⟩⟩
        rw [hg k hk, hf k (by omega), hf (n + k) (by omega)]; omega
      · by_cases a3 : n ≤ hi - lo
        · refine ⟨lo, hi - n, by omega, by omega, .inr ⟨fun k hk => ?_, by omega⟩⟩
          rw [hg k hk, hf k (by omega), hf (n + k) (by omega)]; omega
        · refine ⟨0, n, by omega, by omega, .inl ⟨fun k hk => ?_, by omega⟩⟩
          rw [hg k hk, hf k (by omega), hf (n + k) (by omega)]; omega

theorem Bit.not {n : ℕ} {f : ℕ → Prop} {b c : ℕ} (h : Bit n f b c) : Bit n (fun k => ¬f k) b (n - c) := by
  obtain ⟨lo, hi, h1, h2, ⟨hf, hc⟩ | ⟨hf, hc⟩⟩ := h
  · exact ⟨lo, hi, h1, h2, .inr ⟨fun k hk => not_congr (hf k hk), by omega⟩⟩
  · exact ⟨lo, hi, h1, h2, .inl ⟨fun k hk => (not_congr (hf k hk)).trans not_not, by omega⟩⟩

theorem Bit.le {n : ℕ} {f : ℕ → Prop} {b c : ℕ} (h : Bit n f b c) : c ≤ n := by
  obtain ⟨lo, hi, h1, h2, ⟨hf, hc⟩ | ⟨hf, hc⟩⟩ := h <;> omega

theorem Bit.congr {n : ℕ} {f g : ℕ → Prop} {b b' c c' : ℕ} (h : Bit n f b c)
    (hg : ∀ k, k < n → (g (b' + k) ↔ f (b + k))) (hc : c' = c) : Bit n g b' c' := by
  subst hc
  obtain ⟨lo, hi, h1, h2, ⟨hf, hc⟩ | ⟨hf, hc⟩⟩ := h
  · exact ⟨lo, hi, h1, h2, .inl ⟨fun k hk => (hg k hk).trans (hf k hk), hc⟩⟩
  · exact ⟨lo, hi, h1, h2, .inr ⟨fun k hk => (hg k hk).trans (hf k hk), hc⟩⟩

theorem and_half {n : ℕ} {f g : ℕ → Prop} {b c : ℕ} (h : Bit (2 * n) f b c)
    (hg : ∀ k, k < n → (g (b + n + k) ↔ f (b + k) ∧ f (b + (n + k)))) : Bit n g (b + n) (c - n) := by
  have hle := h.le
  have h2 := (or_half (g := fun j => ¬g (j + n)) h.not (fun k hk => by
    rw [show b + k + n = b + n + k by omega, hg k hk, not_and_or])).not
  exact h2.congr (fun k hk => by rw [not_not, show b + k + n = b + n + k by omega]) (by omega)

theorem block_div {d G k : ℕ} (hd : 0 < d) (hk : k < d) : (2 * d * G + k) / d % 2 = 0 := by
  rw [show 2 * d * G + k = k + d * (2 * G) by ring, Nat.add_mul_div_left _ _ hd, Nat.div_eq_of_lt hk]; omega
theorem block_div' {d G k : ℕ} (hd : 0 < d) (hk : k < d) : (2 * d * G + d + k) / d % 2 = 1 := by
  rw [show 2 * d * G + d + k = k + d * (2 * G + 1) by ring, Nat.add_mul_div_left _ _ hd, Nat.div_eq_of_lt hk]; omega

/-- A stage at distance `d` on `2 d` values that are one run: both halves are one run again, the true ones first in
    the first half. -/
theorem Bit.cl {d G c : ℕ} {f : ℕ → Prop} (hd : 0 < d) (h : Bit (2 * d) f (2 * d * G) c) :
    Bit d (cl d f) (2 * d * G) (min c d) ∧ Bit d (TopRows.cl d f) (2 * d * G + d) (c - d) := by
  refine ⟨or_half h fun k hk => ?_, and_half h fun k hk => ?_⟩
  · unfold TopRows.cl
    rw [if_pos (block_div hd hk), show 2 * d * G + k + d = 2 * d * G + (d + k) by omega]
  · unfold TopRows.cl
    rw [if_neg (by rw [block_div' hd hk]; decide), show 2 * d * G + d + k - d = 2 * d * G + k by omega, Nat.add_assoc]

/-- The stages at distances `2^(K-1), …, 1` put one run of `2^K` values in order. -/
theorem chain_sorted : ∀ (K : ℕ) (f : ℕ → Prop) (G c : ℕ), Bit (2 ^ K) f (2 ^ K * G) c → Srt (2 ^ K) (chain K f) (2 ^ K * G) c
  | 0, f, G, c, h => by
    refine ⟨h.le, fun k hk => ?_⟩
    have hk0 : k = 0 := by simpa using hk
    subst hk0
    obtain ⟨lo, hi, h1, h2, ⟨hf, hc⟩ | ⟨hf, hc⟩⟩ := h
    · exact (hf 0 hk).trans (by simp at h2; omega)
    · exact (hf 0 hk).trans (by simp at h2 hc; omega)
  | K + 1, f, G, c, h => by
    have e : 2 ^ (K + 1) = 2 * 2 ^ K := by rw [pow_succ]; ring
    rw [e] at h ⊢
    have hle := h.le
    obtain ⟨h1, h2⟩ := h.cl (Nat.two_pow_pos K)
    have s1 := chain_sorted K (cl (2 ^ K) f) (2 * G) _ (h1.congr (b' := 2 ^ K * (2 * G)) (fun k _ => by
      rw [show 2 ^ K * (2 * G) = 2 * 2 ^ K * G by ring]) rfl)
    have s2 := chain_sorted K (cl (2 ^ K) f) (2 * G + 1) _ (h2.congr (b' := 2 ^ K * (2 * G + 1)) (fun k _ => by
      rw [show 2 ^ K * (2 * G + 1) = 2 * 2 ^ K * G + 2 ^ K by ring]) rfl)
    refine ⟨hle, fun k hk => ?_⟩
    show chain K (cl (2 ^ K) f) _ ↔ _
    by_cases hk2 : k < 2 ^ K
    · rw [show 2 * 2 ^ K * G + k = 2 ^ K * (2 * G) + k by ring, s1.2 k hk2]; omega
    · have := s2.2 (k - 2 ^ K) (by omega)
      rw [show 2 ^ K * (2 * G + 1) + (k - 2 ^ K) = 2 * 2 ^ K * G + k by
        rw [show 2 ^ K * (2 * G + 1) = 2 * 2 ^ K * G + 2 ^ K by ring]; omega] at this
      rw [this]; omega

/-- The "or" of an ordered run and an ordered run read backwards is one run, of as many true values as fit. -/
theorem Bit.merge_max {n : ℕ} {f g h : ℕ → Prop} {b b1 b2 i j : ℕ} (hf : Srt n f b1 i) (hg : Srt n g b2 j)
    (hh : ∀ k, k < n → (h (b + k) ↔ f (b1 + k) ∨ g (b2 + (n - 1 - k)))) : Bit n h b (min (i + j) n) := by
  have hi := hf.1
  have hj := hg.1
  by_cases hc : i + j ≤ n
  · refine ⟨i, n - j, by omega, by omega, .inr ⟨fun k hk => ?_, by omega⟩⟩
    rw [hh k hk, hf.2 k hk, hg.2 _ (by omega)]; omega
  · refine ⟨0, n, by omega, by omega, .inl ⟨fun k hk => ?_, by omega⟩⟩
    rw [hh k hk, hf.2 k hk, hg.2 _ (by omega)]; omega

/-- The "and" of the two is one run, of the true values the "or" has no room for. -/
theorem Bit.merge_min {n : ℕ} {f g h : ℕ → Prop} {b b1 b2 i j : ℕ} (hf : Srt n f b1 i) (hg : Srt n g b2 j)
    (hh : ∀ k, k < n → (h (b + k) ↔ f (b1 + k) ∧ g (b2 + (n - 1 - k)))) : Bit n h b (i + j - n) := by
  have hi := hf.1
  have hj := hg.1
  by_cases hc : n ≤ i + j
  · refine ⟨n - j, i, by omega, by omega, .inl ⟨fun k hk => ?_, by omega⟩⟩
    rw [hh k hk, hf.2 k hk, hg.2 _ (by omega)]; omega
  · refine ⟨0, 0, by omega, by omega, .inl ⟨fun k hk => ?_, by omega⟩⟩
    rw [hh k hk, hf.2 k hk, hg.2 _ (by omega)]; omega

/-- Merging two ordered runs of `2^K`: one ordered run of `2^(K+1)`. -/
theorem merge_sorted (K G i j : ℕ) (f : ℕ → Prop) (hf : Srt (2 ^ K) f (2 ^ K * (2 * G)) i)
    (hg : Srt (2 ^ K) f (2 ^ K * (2 * G + 1)) j) :
    Srt (2 ^ (K + 1)) (chain K (mg (2 ^ K) f)) (2 ^ (K + 1) * G) (i + j) := by
  have hd : 0 < 2 ^ K := Nat.two_pow_pos K
  have hi := hf.1
  have hj := hg.1
  have s1 := chain_sorted K (mg (2 ^ K) f) (2 * G) _ (Bit.merge_max hf hg fun k hk => by
    unfold mg
    have e1 : (2 ^ K * (2 * G) + k) / 2 ^ K = 2 * G := by
      rw [Nat.add_comm, Nat.add_mul_div_left _ _ hd, Nat.div_eq_of_lt hk]; omega
    rw [e1, if_pos (by omega), Nat.mul_add_mod, Nat.mod_eq_of_lt hk,
      show 2 * G * 2 ^ K + 2 ^ K = 2 ^ K * (2 * G + 1) by ring])
  have s2 := chain_sorted K (mg (2 ^ K) f) (2 * G + 1) _ (Bit.merge_min hf hg fun k hk => by
    unfold mg
    have e1 : (2 ^ K * (2 * G + 1) + k) / 2 ^ K = 2 * G + 1 := by
      rw [Nat.add_comm, Nat.add_mul_div_left _ _ hd, Nat.div_eq_of_lt hk]; omega
    rw [e1, if_neg (by omega), Nat.mul_add_mod, Nat.mod_eq_of_lt hk,
      show (2 * G + 1) * 2 ^ K - 2 ^ K = 2 ^ K * (2 * G) by rw [show (2 * G + 1) * 2 ^ K = 2 ^ K * (2 * G) + 2 ^ K by ring]; omega,
      show (2 * G + 1) * 2 ^ K = 2 ^ K * (2 * G + 1) by ring])
  have e : 2 ^ (K + 1) = 2 * 2 ^ K := by rw [pow_succ]; ring
  rw [e]
  refine ⟨by omega, fun k hk => ?_⟩
  by_cases hk2 : k < 2 ^ K
  · rw [show 2 * 2 ^ K * G + k = 2 ^ K * (2 * G) + k by ring, s1.2 k hk2]; omega
  · have := s2.2 (k - 2 ^ K) (by omega)
    rw [show 2 ^ K * (2 * G + 1) + (k - 2 ^ K) = 2 * 2 ^ K * G + k by
      rw [show 2 ^ K * (2 * G + 1) = 2 * 2 ^ K * G + 2 ^ K by ring]; omega] at this
    rw [this]; omega

/-- Folding one ordered run onto another and ordering the outcome: as many true values as fit. -/
theorem fold_sorted {K G i j b1 b2 : ℕ} {f g h : ℕ → Prop} (hf : Srt (2 ^ K) f b1 i) (hg : Srt (2 ^ K) g b2 j)
    (hh : ∀ k, k < 2 ^ K → (h (2 ^ K * G + k) ↔ f (b1 + k) ∨ g (b2 + (2 ^ K - 1 - k)))) :
    Srt (2 ^ K) (chain K h) (2 ^ K * G) (min (i + j) (2 ^ K)) :=
  chain_sorted K h G _ (Bit.merge_max hf hg hh)

end Cert.TopRows
-- ==== Proof.StageValue.lean ====
/- Each stage of the body at the ideal reading, seen through a threshold: which rows of a lane hold a value at least
   `t`. On these truth values every stage is the stage of Bitonic.lean of the same name. -/
module

public import proofs.«01_k».proof.Proof.Stages
public import proofs.«01_k».proof.Proof.Bitonic
public import Idealize.ShloMosaic.Lib.ValueIdx
public import Idealize.ShloMosaic.PureOps.Ideal

@[expose] public section

noncomputable section

namespace Cert.TopRows

open Idealize.ShloMosaic Idealize.ShloMosaic.ValueIdx

/-- Row `p` exists and holds a value at least `t` in lane `l`. -/
def ge {r : ℕ} (t : EReal) (x : FVec Ideal (Sh r) .f32) (l : Fin 128) (p : ℕ) : Prop :=
  ∃ h : p < r, t ≤ x (ix2 ⟨p, h⟩ l)

theorem ge_iff {r : ℕ} {t : EReal} {x : FVec Ideal (Sh r) .f32} {l : Fin 128} {p : ℕ} (h : p < r) :
    ge t x l p ↔ t ≤ x (ix2 ⟨p, h⟩ l) := ⟨fun ⟨_, h⟩ => h, fun h' => ⟨h, h'⟩⟩

theorem ge_lt {r : ℕ} {t : EReal} {x : FVec Ideal (Sh r) .f32} {l : Fin 128} {p : ℕ} (h : ge t x l p) : p < r := h.1

theorem ge_rows {r n o : ℕ} (h : o + n ≤ r) (t : EReal) (x : FVec Ideal (Sh r) .f32) (l : Fin 128) (p : ℕ) :
    ge t (rows n o h x) l p ↔ p < n ∧ ge t x l (o + p) := by
  have key : ∀ hp : p < n, rows n o h x (ix2 ⟨p, hp⟩ l) = x (ix2 ⟨o + p, by omega⟩ l) := fun hp => by
    unfold rows
    refine extractStridedSlice_apply _ x _ _ _ fun a => ?_
    match a with
    | ⟨0, _⟩ => rfl
    | ⟨1, _⟩ => exact (Nat.zero_add _).symm
  constructor
  · rintro ⟨hp, h'⟩
    rw [key hp] at h'
    exact ⟨hp, _, h'⟩
  · rintro ⟨hp, _, h'⟩
    exact ⟨hp, by rw [key hp]; exact h'⟩

theorem ge_max {r : ℕ} (t : EReal) (x y : FVec Ideal (Sh r) .f32) (l : Fin 128) (p : ℕ) :
    ge t (maximumf x y) l p ↔ ge t x l p ∨ ge t y l p := by
  constructor
  · rintro ⟨hp, h⟩
    have h' : t ≤ max (x (ix2 ⟨p, hp⟩ l)) (y (ix2 ⟨p, hp⟩ l)) := h
    exact (le_max_iff.1 h').imp (fun h => ⟨hp, h⟩) fun h => ⟨hp, h⟩
  · rintro (⟨hp, h⟩ | ⟨hp, h⟩)
    · exact ⟨hp, le_max_iff.2 (.inl h)⟩
    · exact ⟨hp, le_max_iff.2 (.inr h)⟩

theorem ge_min {r : ℕ} (t : EReal) (x y : FVec Ideal (Sh r) .f32) (l : Fin 128) (p : ℕ) :
    ge t (minimumf x y) l p ↔ ge t x l p ∧ ge t y l p := by
  constructor
  · rintro ⟨hp, h⟩
    have h' : t ≤ min (x (ix2 ⟨p, hp⟩ l)) (y (ix2 ⟨p, hp⟩ l)) := h
    exact (le_min_iff.1 h').imp (fun h => ⟨hp, h⟩) fun h => ⟨hp, h⟩
  · rintro ⟨⟨hp, h⟩, ⟨_, h2⟩⟩
    exact ⟨hp, le_min_iff.2 ⟨h, h2⟩⟩

theorem ge_mm {r : ℕ} (b : ℕ) (t : EReal) (x y : FVec Ideal (Sh r) .f32) (l : Fin 128) (p : ℕ) :
    ge t (mm b x y) l p ↔ if b % 2 = 0 then ge t x l p ∨ ge t y l p else ge t x l p ∧ ge t y l p := by
  unfold mm
  rcases Nat.mod_two_eq_zero_or_one b with h | h
  · rw [h, if_pos rfl]; exact ge_max t x y l p
  · rw [h, if_neg (by decide)]; exact ge_min t x y l p

theorem ge_stack {N K r : ℕ} (hN : 2 ≤ N) (h : N * K = r) (hK : 0 < K) (f : Fin N → FVec Ideal (Sh K) .f32) (t : EReal)
    (l : Fin 128) (p : ℕ) (n : Fin N) (hp : p / K = n.val) :
    ge t (stack hN h f) l p ↔ ge t (f n) l (p % K) := by
  have hpr : p < r := by
    rw [← h]
    exact (Nat.div_lt_iff_lt_mul hK).1 (by rw [hp]; exact n.isLt)
  have key : stack hN h f (ix2 ⟨p, hpr⟩ l) = f n (ix2 ⟨p % K, Nat.mod_lt _ hK⟩ l) := by
    unfold stack
    refine concatenate_ofFn_apply (s₁ := Sh K) (t := Sh r) 0 f _ rfl K rfl _ n hp _ rfl fun b hb => ?_
    match b, hb with
    | ⟨0, _⟩, hb => exact absurd rfl hb
    | ⟨1, _⟩, _ => rfl
  rw [ge_iff hpr, ge_iff (Nat.mod_lt _ hK), key]

theorem ge_rev8 {r q : ℕ} (hq : 2 ≤ q) (h : q * 8 = r) (x : FVec Ideal (Sh r) .f32) (t : EReal) (l : Fin 128) {p : ℕ}
    (hp : p < r) : ge t (rev8 q hq h x) l p ↔ ge t x l (8 * (q - 1 - p / 8) + p % 8) := by
  unfold rev8
  rw [ge_stack hq h (by decide) _ t l p ⟨p / 8, by omega⟩ rfl, ge_rows]
  exact and_iff_right (Nat.mod_lt _ (by decide))

theorem cleanWide_cl {r : ℕ} (G K : ℕ) (hG : 2 ≤ 2 * G) (h : 2 * G * K = r) (hK : 0 < K) (x : FVec Ideal (Sh r) .f32)
    (t : EReal) (l : Fin 128) : ge t (cleanWide G K hG h x) l = cl K (ge t x l) := by
  funext p
  apply propext
  have ediv := Nat.div_add_mod p K
  have hlt := Nat.mod_lt p hK
  by_cases hp : p < r
  · have hn : p / K < 2 * G := (Nat.div_lt_iff_lt_mul hK).2 (by rw [h]; exact hp)
    unfold cleanWide
    rw [ge_stack hG h hK _ t l p ⟨p / K, hn⟩ rfl, ge_mm, ge_rows, ge_rows]
    unfold cl
    simp only [hlt, true_and]
    by_cases hb : p / K % 2 = 0
    · have e : 2 * K * (p / K / 2) + p % K = p := by
        have : p / K = 2 * (p / K / 2) := by omega
        calc 2 * K * (p / K / 2) + p % K = K * (2 * (p / K / 2)) + p % K := by ring
          _ = p := by rw [← this]; exact ediv
      rw [if_pos hb, if_pos hb, e, show 2 * K * (p / K / 2) + K + p % K = p + K by omega]
    · have e : 2 * K * (p / K / 2) + K + p % K = p := by
        have : p / K = 2 * (p / K / 2) + 1 := by omega
        calc 2 * K * (p / K / 2) + K + p % K = K * (2 * (p / K / 2) + 1) + p % K := by ring
          _ = p := by rw [← this]; exact ediv
      rw [if_neg hb, if_neg hb, e, show 2 * K * (p / K / 2) + p % K = p - K by omega]
  · have hn : ¬ge t (cleanWide G K hG h x) l p := fun h => hp (ge_lt h)
    have hn' : ¬ge t x l p := fun h => hp (ge_lt h)
    refine iff_of_false hn ?_
    unfold cl
    split
    · rintro (h | h)
      · exact hn' h
      · have := ge_lt h; omega
    · exact fun h => hn' h.2

theorem half_apply (m K c : ℕ) (hc : c < 2) (y : FVec Ideal (Sh4 m 2 K) .f32) (g : Fin m) (o : Fin K) (l : Fin 128) :
    half m K c hc y (ix3 g o l) = y (ix4 g ⟨c, hc⟩ o l) := by
  unfold half
  refine (shapeCast_apply _ _ _ (ix4 g (0 : Fin 1) o l) ?_).trans (extractStridedSlice_apply _ y _ _ _ fun a => ?_)
  · rw [Shape.rowMajor_val_four, Shape.rowMajor_val_three]
    show ((g.val * 1 + 0) * K + o.val) * 128 + l.val = (g.val * K + o.val) * 128 + l.val
    rw [Nat.mul_one, Nat.add_zero]
  · match a with
    | ⟨0, _⟩ => exact (Nat.zero_add _).symm
    | ⟨1, _⟩ => rfl
    | ⟨2, _⟩ => exact (Nat.zero_add _).symm
    | ⟨3, _⟩ => exact (Nat.zero_add _).symm

theorem cast_2_4_apply {m K r : ℕ} (h : 2 * m * K = r) (x : FVec Ideal (Sh r) .f32) (g : Fin m) (c : Fin 2) (o : Fin K)
    (l : Fin 128) (p : Fin r) (hp : p.val = 2 * K * g.val + K * c.val + o.val) :
    shapeCast (Sh4 m 2 K) x (casts_2_4 h) (ix4 g c o l) = x (ix2 p l) := by
  refine shapeCast_apply _ _ _ _ ?_
  rw [Shape.rowMajor_val_four, Shape.rowMajor_val_two]
  show p.val * 128 + l.val = ((g.val * 2 + c.val) * K + o.val) * 128 + l.val
  rw [hp]; ring

/-- One stage through the reshape, at the two rows of a pair. -/
theorem clean_apply {r : ℕ} (m K : ℕ) (h : 2 * m * K = r) (x : FVec Ideal (Sh r) .f32) (g : Fin m) (o : Fin K) (l : Fin 128)
    (p p' : Fin r) (hp : p.val = 2 * K * g.val + o.val) (hp' : p'.val = 2 * K * g.val + K + o.val) :
    clean m K h x (ix2 p l) = max (x (ix2 p l) : EReal) (x (ix2 p' l)) ∧
      clean m K h x (ix2 p' l) = min (x (ix2 p l) : EReal) (x (ix2 p' l)) := by
  have e0 := cast_2_4_apply h x g 0 o l p (by rw [hp]; rfl)
  have e1 := cast_2_4_apply h x g 1 o l p' (by rw [hp']; show _ = 2 * K * g.val + K * 1 + o.val; rw [Nat.mul_one])
  have er : ((Sh3 m K).rowMajor (ix3 g o l)).val = ((Sh4 m 1 K).rowMajor (ix4 g (0 : Fin 1) o l)).val := by
    rw [Shape.rowMajor_val_four, Shape.rowMajor_val_three]
    show (g.val * K + o.val) * 128 + l.val = ((g.val * 1 + 0) * K + o.val) * 128 + l.val
    rw [Nat.mul_one, Nat.add_zero]
  constructor
  · unfold clean
    refine (shapeCast_apply _ _ _ (ix4 g (0 : Fin 2) o l) ?_).trans ?_
    · rw [Shape.rowMajor_val_four, Shape.rowMajor_val_two]
      show ((g.val * 2 + 0) * K + o.val) * 128 + l.val = p.val * 128 + l.val
      rw [hp]; ring
    · refine (concatenate_pair_apply_left (t := Sh4 m 2 K) (s₁ := Sh4 m 1 K) (s₂ := Sh4 m 1 K) 1
        _ _ _ _ rfl (ix4 g (0 : Fin 1) o l) fun b => ?_).trans ?_
      · match b with
        | ⟨0, _⟩ => rfl
        | ⟨1, _⟩ => rfl
        | ⟨2, _⟩ => rfl
        | ⟨3, _⟩ => rfl
      · refine (shapeCast_apply _ _ _ (ix3 g o l) er).trans ?_
        show max (half (F := Ideal) m K 0 _ _ (ix3 g o l) : EReal) (half (F := Ideal) m K 1 _ _ (ix3 g o l)) = _
        rw [half_apply, half_apply]
        exact congrArg₂ max e0 e1
  · unfold clean
    refine (shapeCast_apply _ _ _ (ix4 g (1 : Fin 2) o l) ?_).trans ?_
    · rw [Shape.rowMajor_val_four, Shape.rowMajor_val_two]
      show ((g.val * 2 + 1) * K + o.val) * 128 + l.val = p'.val * 128 + l.val
      rw [hp']; ring
    · refine (concatenate_pair_apply_right (t := Sh4 m 2 K) (s₁ := Sh4 m 1 K) (s₂ := Sh4 m 1 K) 1
        _ _ _ _ rfl rfl (ix4 g (0 : Fin 1) o l)
        (fun b hb => ?_) rfl).trans ?_
      · match b, hb with
        | ⟨0, _⟩, _ => rfl
        | ⟨1, _⟩, hb => exact absurd rfl hb
        | ⟨2, _⟩, _ => rfl
        | ⟨3, _⟩, _ => rfl
      · refine (shapeCast_apply _ _ _ (ix3 g o l) er).trans ?_
        show min (half (F := Ideal) m K 0 _ _ (ix3 g o l) : EReal) (half (F := Ideal) m K 1 _ _ (ix3 g o l)) = _
        rw [half_apply, half_apply]
        exact congrArg₂ min e0 e1

theorem clean_cl {r : ℕ} (m K : ℕ) (h : 2 * m * K = r) (hK : 0 < K) (x : FVec Ideal (Sh r) .f32)
    (t : EReal) (l : Fin 128) : ge t (clean m K h x) l = cl K (ge t x l) := by
  funext p
  apply propext
  have ediv := Nat.div_add_mod p K
  have hlt := Nat.mod_lt p hK
  by_cases hp : p < r
  · have hn : p / K < 2 * m := (Nat.div_lt_iff_lt_mul hK).2 (by rw [h]; exact hp)
    have hle : 2 * K * (p / K / 2) + K + K ≤ r := piece_le h hn
    unfold cl
    by_cases hb : p / K % 2 = 0
    · have e : p = 2 * K * (p / K / 2) + p % K := by
        have : p / K = 2 * (p / K / 2) := by omega
        calc p = K * (2 * (p / K / 2)) + p % K := by rw [← this]; exact ediv.symm
          _ = _ := by ring
      have hc := (clean_apply m K h x ⟨p / K / 2, by omega⟩ ⟨p % K, hlt⟩ l ⟨p, hp⟩ ⟨p + K, by omega⟩ e
        (by show p + K = 2 * K * (p / K / 2) + K + p % K; omega)).1
      rw [if_pos hb, ge_iff hp, ge_iff hp, ge_iff (show p + K < r by omega), hc]
      exact le_max_iff
    · have e : p = 2 * K * (p / K / 2) + K + p % K := by
        have : p / K = 2 * (p / K / 2) + 1 := by omega
        calc p = K * (2 * (p / K / 2) + 1) + p % K := by rw [← this]; exact ediv.symm
          _ = _ := by ring
      have hc := (clean_apply m K h x ⟨p / K / 2, by omega⟩ ⟨p % K, hlt⟩ l ⟨p - K, by omega⟩ ⟨p, hp⟩
        (by show p - K = 2 * K * (p / K / 2) + p % K; omega) e).2
      rw [if_neg hb, ge_iff hp, ge_iff hp, ge_iff (show p - K < r by omega), hc]
      exact le_min_iff
  · have hn : ¬ge t (clean m K h x) l p := fun h => hp (ge_lt h)
    have hn' : ¬ge t x l p := fun h => hp (ge_lt h)
    refine iff_of_false hn ?_
    unfold cl
    split
    · rintro (h | h)
      · exact hn' h
      · have := ge_lt h; omega
    · exact fun h => hn' h.2

end Cert.TopRows

end
-- ==== Proof.StageBits.lean ====
/- The stages that read single bits of the row number, the merge levels and the candidates of a block, seen through a
   threshold as in StageValue.lean. -/
module

public import proofs.«01_k».proof.Proof.StageValue

@[expose] public section

noncomputable section

namespace Cert.TopRows

open Idealize.ShloMosaic Idealize.ShloMosaic.ValueIdx

/-! ### Columns: the rows of one residue modulo 8 -/

/-- Row `8 k + s` holds a value at least `t`. -/
def col {r : ℕ} (t : EReal) (x : FVec Ideal (Sh r) .f32) (l : Fin 128) (s k : ℕ) : Prop := ge t x l (8 * k + s)

theorem cl_col (κ : ℕ) (f : ℕ → Prop) (s : ℕ) (hs : s < 8) :
    (fun k => cl (8 * κ) f (8 * k + s)) = cl κ fun k => f (8 * k + s) := by
  funext k
  have e : (8 * k + s) / (8 * κ) = k / κ := by
    rw [← Nat.div_div_eq_div_mul, show (8 * k + s) / 8 = k by omega]
  unfold cl
  rw [e]
  by_cases hb : k / κ % 2 = 0
  · rw [if_pos hb, if_pos hb, show 8 * k + s + 8 * κ = 8 * (k + κ) + s by ring]
  · have hk : κ ≤ k := by
      by_contra hc
      rw [Nat.div_eq_of_lt (by omega)] at hb
      exact hb rfl
    rw [if_neg hb, if_neg hb, show 8 * k + s - 8 * κ = 8 * (k - κ) + s by omega]

theorem clean_col {r : ℕ} (m κ : ℕ) (h : 2 * m * (8 * κ) = r) (hκ : 0 < κ) (x : FVec Ideal (Sh r) .f32) (t : EReal)
    (l : Fin 128) (s : ℕ) (hs : s < 8) : col t (clean m (8 * κ) h x) l s = cl κ (col t x l s) := by
  unfold col
  rw [clean_cl m (8 * κ) h (by omega), cl_col κ _ s hs]

theorem cleanWide_col {r : ℕ} (G κ : ℕ) (hG : 2 ≤ 2 * G) (h : 2 * G * (8 * κ) = r) (hκ : 0 < κ)
    (x : FVec Ideal (Sh r) .f32) (t : EReal) (l : Fin 128) (s : ℕ) (hs : s < 8) :
    col t (cleanWide G (8 * κ) hG h x) l s = cl κ (col t x l s) := by
  unfold col
  rw [cleanWide_cl G (8 * κ) hG h (by omega), cl_col κ _ s hs]

theorem mergeLevel_col {r : ℕ} (G K q : ℕ) (hG : 2 ≤ 2 * G) (hq : 2 ≤ q) (hK : q * 8 = K) (h : 2 * G * K = r)
    (x : FVec Ideal (Sh r) .f32) (t : EReal) (l : Fin 128) (s : ℕ) (hs : s < 8) :
    col t (mergeLevel G K q hG hq hK h x) l s = mg q (col t x l s) := by
  funext k
  apply propext
  have hK8 : K = 8 * q := by omega
  have hr : r = 8 * (2 * G * q) := by rw [← h, hK8]; ring
  have hkq := Nat.div_add_mod k q
  have hlt := Nat.mod_lt k (show 0 < q by omega)
  have hcomm : k / q * q = q * (k / q) := Nat.mul_comm _ _
  unfold col mg
  by_cases hp : 8 * k + s < r
  · have en : (8 * k + s) / K = k / q := by
      rw [hK8, ← Nat.div_div_eq_div_mul, show (8 * k + s) / 8 = k by omega]
    have em : (8 * k + s) % K = 8 * (k % q) + s := by
      rw [hK8, Nat.mod_mul, show (8 * k + s) / 8 = k by omega, show (8 * k + s) % 8 = s by omega]; omega
    have hn : k / q < 2 * G := (Nat.div_lt_iff_lt_mul (by omega)).2 (by omega)
    have hmK : 8 * (k % q) + s < K := by omega
    unfold mergeLevel
    rw [ge_stack hG h (by omega) _ t l _ ⟨k / q, hn⟩ en, em, ge_mm, ge_rows, ge_rev8 _ _ _ _ _ hmK, ge_rows,
      show (8 * (k % q) + s) / 8 = k % q by omega, show (8 * (k % q) + s) % 8 = s by omega]
    have h2 : 8 * (q - 1 - k % q) + s < K := by omega
    have eK : 2 * K * (k / q / 2) = 8 * (2 * (k / q / 2) * q) := by rw [hK8]; ring
    simp only [hmK, h2, true_and]
    by_cases hb : k / q % 2 = 0
    · have hd : 2 * (k / q / 2) = k / q := by omega
      rw [hd] at eK
      rw [if_pos hb, if_pos hb, eK, show 8 * (k / q * q) + (8 * (k % q) + s) = 8 * k + s by omega,
        show 8 * (k / q * q) + K + (8 * (q - 1 - k % q) + s) = 8 * (k / q * q + q + (q - 1 - k % q)) + s by omega]
    · have hd : 2 * (k / q / 2) + 1 = k / q := by omega
      have hd' : 2 * (k / q / 2) * q + q = k / q * q := by
        have := congrArg (· * q) hd
        simpa only [Nat.add_mul, Nat.one_mul] using this
      rw [if_neg hb, if_neg hb, eK,
        show 8 * (2 * (k / q / 2) * q) + (8 * (k % q) + s) = 8 * (k / q * q - q + k % q) + s by omega,
        show 8 * (2 * (k / q / 2) * q) + K + (8 * (q - 1 - k % q) + s) = 8 * (k / q * q + (q - 1 - k % q)) + s by omega]
  · have hk : 2 * G * q ≤ k := by omega
    have hn : 2 * G ≤ k / q := (Nat.le_div_iff_mul_le (by omega)).2 hk
    have hn' : 2 * G * q ≤ k / q * q := Nat.mul_le_mul_right q hn
    refine iff_of_false (fun h => hp (ge_lt h)) ?_
    split
    · rintro (h | h)
      · exact hp (ge_lt h)
      · have := ge_lt h; omega
    · rintro ⟨-, h⟩
      have := ge_lt h; omega

/-! ### The stages that read a bit of the row number -/

theorem pick_apply {r : ℕ} (c : IVec (Col r) 1) (x y : FVec Ideal (Sh r) .f32) (p : Fin r) (l : Fin 128) :
    pick c x y (ix2 p l) = if c (ix2 p 0) = 1#1 then x (ix2 p l) else y (ix2 p l) := by
  have e : broadcastTo (Sh r) (shapeCast (Col r) c rfl) (broadcasts_col r) (ix2 p l) = c (ix2 p 0) := by
    refine (broadcastTo_apply _ _ _ (ix2 p (0 : Fin 1)) fun a => ?_).trans (shapeCast_apply c _ _ _ rfl)
    match a with
    | ⟨0, _⟩ =>
      show p.val = if r = 1 then 0 else p.val
      split
      · have := p.isLt; omega
      · rfl
    | ⟨1, _⟩ => rfl
  show Scalar.select _ _ _ = _
  rw [e]
  rfl

/-- The word `w` is the one bit that counts `d`. -/
def BitOf (d : ℕ) (w : BitVec 32) : Prop :=
  ∀ p : Fin 1024, (IntOp.cmpi .ne (IntOp.andi (BitVec.ofNat 32 p.val) w) 0#32 = 1#1 ↔ p.val / d % 2 = 1)

theorem bitOf_one : BitOf 1 1#32 := by unfold BitOf; decide +kernel
theorem bitOf_two : BitOf 2 2#32 := by unfold BitOf; decide +kernel
theorem bitOf_four : BitOf 4 4#32 := by unfold BitOf; decide +kernel

theorem rowIx_apply {r : ℕ} (p : Fin r) : rowIx r (ix2 p 0) = BitVec.ofNat 32 p.val := by
  show BitVec.ofNat 32 (0 * r + p.val) = _
  rw [Nat.zero_mul, Nat.zero_add]

theorem bitOn_apply {r d : ℕ} {w : BitVec 32} (hw : BitOf d w) (hr : r ≤ 1024) (p : Fin r) :
    bitOn r w (ix2 p 0) = 1#1 ↔ p.val / d % 2 = 1 := by
  show IntOp.cmpi .ne (IntOp.andi (rowIx r (ix2 p 0)) w) 0#32 = 1#1 ↔ _
  rw [rowIx_apply]
  exact hw ⟨p.val, by have := p.isLt; omega⟩

theorem roll_lo {r a b : ℕ} (h : b + a = r) (x : FVec Ideal (Sh r) .f32) (l : Fin 128) (p : Fin r) (hp : p.val < b) :
    roll a b h x (ix2 p l) = x (ix2 ⟨a + p.val, by omega⟩ l) := by
  unfold roll
  refine (concatenate_pair_apply_left (t := Sh r) (s₁ := Sh b) (s₂ := Sh a) 0 _ _ _ _ rfl (ix2 ⟨p.val, hp⟩ l)
    fun c => ?_).trans (extractStridedSlice_apply _ x _ _ _ fun c => ?_)
  · match c with
    | ⟨0, _⟩ => rfl
    | ⟨1, _⟩ => rfl
  · match c with
    | ⟨0, _⟩ => rfl
    | ⟨1, _⟩ => exact (Nat.zero_add _).symm

theorem roll_hi {r a b : ℕ} (h : b + a = r) (x : FVec Ideal (Sh r) .f32) (l : Fin 128) (p : Fin r) (hp : b ≤ p.val) :
    roll a b h x (ix2 p l) = x (ix2 ⟨p.val - b, by have := p.isLt; omega⟩ l) := by
  unfold roll
  refine (concatenate_pair_apply_right (t := Sh r) (s₁ := Sh b) (s₂ := Sh a) 0 _ _ _ _ rfl rfl
    (ix2 ⟨p.val - b, by have := p.isLt; omega⟩ l) (fun c hc => ?_) ?_).trans (extractStridedSlice_apply _ x _ _ _ fun c => ?_)
  · match c, hc with
    | ⟨0, _⟩, hc => exact absurd rfl hc
    | ⟨1, _⟩, _ => rfl
  · exact Nat.sub_add_cancel hp
  · match c with
    | ⟨0, _⟩ => exact (Nat.zero_add _).symm
    | ⟨1, _⟩ => exact (Nat.zero_add _).symm

theorem ge_partner {r d e : ℕ} {w : BitVec 32} (hw : BitOf d w) (h : e + d = r) (hr : r ≤ 1024) (hd : 0 < d)
    (m : ℕ) (hm : r = 2 * d * m) (x : FVec Ideal (Sh r) .f32) (t : EReal) (l : Fin 128) {p : ℕ} (hp : p < r) :
    ge t (partner d e w h x) l p ↔ if p / d % 2 = 1 then ge t x l (p - d) else ge t x l (p + d) := by
  rw [ge_iff hp]
  unfold partner
  rw [pick_apply]
  by_cases hb : p / d % 2 = 1
  · have hdp : d ≤ p := by
      by_contra hc
      rw [Nat.div_eq_of_lt (by omega)] at hb
      exact absurd hb (by decide)
    rw [if_pos ((bitOn_apply hw hr _).2 hb), if_pos hb, ge_iff (show p - d < r by omega)]
    rw [roll_hi _ _ _ _ hdp]
  · have hlt : p + d < r := by
      have h1 : p / d < 2 * m := (Nat.div_lt_iff_lt_mul hd).2 (by rw [show 2 * m * d = r by rw [hm]; ring]; exact hp)
      have h2 : p / d + 1 + 1 ≤ 2 * m := by omega
      have h3 : (p / d + 1 + 1) * d ≤ 2 * m * d := Nat.mul_le_mul_right d h2
      rw [show 2 * m * d = r by rw [hm]; ring] at h3
      have h4 := Nat.div_add_mod p d
      have h5 := Nat.mod_lt p hd
      have h6 : (p / d + 1 + 1) * d = d * (p / d) + d + d := by ring
      omega
    rw [if_neg fun h => hb ((bitOn_apply hw hr _).1 h), if_neg hb, ge_iff hlt, roll_lo _ _ _ _ (show p < e by omega)]
    rw [show (⟨d + p, _⟩ : Fin r) = ⟨p + d, hlt⟩ from Fin.ext (Nat.add_comm _ _)]

theorem side_apply : ∀ p : Fin 128,
    IntOp.cmpi .eq (IntOp.andi (IntOp.shrsi .vector (BitVec.ofNat 32 p.val) 7#32) 1#32) 0#32 = 1#1 := by decide +kernel
theorem xor_one : ∀ b : BitVec 1, IntOp.xori 1#1 b = 1#1 ↔ ¬b = 1#1 := by decide +kernel

theorem cleanNear_cl {d e : ℕ} {w : BitVec 32} (hw : BitOf d w) (h : e + d = 128) (hd : 0 < d) (m : ℕ)
    (hm : 128 = 2 * d * m) (x : FVec Ideal (Sh 128) .f32) (t : EReal) (l : Fin 128) :
    ge t (cleanNear d e w h x) l = cl d (ge t x l) := by
  funext p
  apply propext
  by_cases hp : p < 128
  · have hmask : xori (cmpi .eq (andi (shrsi (rowIx 128) (broadcast (Col 128) 7#32)) (broadcast (Col 128) 1#32))
        (broadcast (Col 128) 0#32)) (bitOn 128 w) (ix2 ⟨p, hp⟩ 0) = 1#1 ↔ ¬p / d % 2 = 1 := by
      show IntOp.xori (IntOp.cmpi .eq (IntOp.andi (IntOp.shrsi _ (rowIx 128 (ix2 ⟨p, hp⟩ 0)) 7#32) 1#32) 0#32)
        (bitOn 128 w (ix2 ⟨p, hp⟩ 0)) = 1#1 ↔ _
      rw [rowIx_apply, side_apply ⟨p, hp⟩, xor_one, bitOn_apply hw (by decide)]
    have hpt := ge_partner hw h (by decide) hd m hm x t l hp
    rw [ge_iff hp]
    unfold cleanNear
    rw [pick_apply]
    unfold cl
    by_cases hb : p / d % 2 = 1
    · rw [if_pos hb] at hpt
      rw [if_neg fun h => hmask.1 h hb, if_neg (by omega), ← ge_iff hp, ge_min, hpt]
      exact and_comm
    · rw [if_neg hb] at hpt
      rw [if_pos (hmask.2 hb), if_pos (by omega), ← ge_iff hp, ge_max, hpt]
  · refine iff_of_false (fun h => hp (ge_lt h)) ?_
    unfold cl
    split
    · rintro (h | h)
      · exact hp (ge_lt h)
      · have := ge_lt h; omega
    · exact fun h => hp (ge_lt h.2)

end Cert.TopRows

end
-- ==== Proof.Counting.lean ====
/- Counting the true values of a predicate on the first natural numbers, and the levels of the merge sort of
   Bitonic.lean with the counts they sort. -/
module

public import proofs.«01_k».proof.Proof.Bitonic

@[expose] public section

noncomputable section

namespace Cert.TopRows

open Classical in
/-- How many `k < n` satisfy `p`. -/
def cnt (p : ℕ → Prop) (n : ℕ) : ℕ := Nat.count p n

theorem cnt_zero (p : ℕ → Prop) : cnt p 0 = 0 := by
  classical exact Nat.count_zero _
open Classical in
theorem cnt_succ (p : ℕ → Prop) (n : ℕ) : cnt p (n + 1) = cnt p n + if p n then 1 else 0 := Nat.count_succ _ _
theorem cnt_add (p : ℕ → Prop) (a b : ℕ) : cnt p (a + b) = cnt p a + cnt (fun k => p (a + k)) b := by
  classical exact Nat.count_add _ _ _
theorem cnt_le (p : ℕ → Prop) (n : ℕ) : cnt p n ≤ n := by
  induction n with
  | zero => rw [cnt_zero]
  | succ n ih => rw [cnt_succ]; split <;> omega
theorem cnt_congr {p q : ℕ → Prop} {n : ℕ} (h : ∀ k, k < n → (p k ↔ q k)) : cnt p n = cnt q n := by
  induction n with
  | zero => rw [cnt_zero, cnt_zero]
  | succ n ih =>
    rw [cnt_succ, cnt_succ, ih fun k hk => h k (by omega)]
    by_cases hp : p n
    · rw [if_pos hp, if_pos ((h n (by omega)).1 hp)]
    · rw [if_neg hp, if_neg fun hq => hp ((h n (by omega)).2 hq)]

/-- A count over `8 q` numbers, by residues modulo 8. -/
theorem cnt_eight (p : ℕ → Prop) (q : ℕ) : cnt p (8 * q) =
    cnt (fun k => p (8 * k + 0)) q + cnt (fun k => p (8 * k + 1)) q + cnt (fun k => p (8 * k + 2)) q +
    cnt (fun k => p (8 * k + 3)) q + cnt (fun k => p (8 * k + 4)) q + cnt (fun k => p (8 * k + 5)) q +
    cnt (fun k => p (8 * k + 6)) q + cnt (fun k => p (8 * k + 7)) q := by
  induction q with
  | zero => simp only [Nat.mul_zero, cnt_zero]
  | succ q ih =>
    rw [show 8 * (q + 1) = 8 * q + 1 + 1 + 1 + 1 + 1 + 1 + 1 + 1 by ring]
    simp only [cnt_succ, ih, Nat.add_zero, Nat.add_assoc, Nat.reduceAdd]
    omega

/-- Every run of `2^j` sorted, from runs of one. -/
def lvl : ℕ → (ℕ → Prop) → ℕ → Prop
  | 0, f => f
  | j + 1, f => chain j (mg (2 ^ j) (lvl j f))

theorem lvl_sorted (j : ℕ) : ∀ (G : ℕ) (f : ℕ → Prop),
    Srt (2 ^ j) (lvl j f) (2 ^ j * G) (cnt (fun k => f (2 ^ j * G + k)) (2 ^ j)) := by
  induction j with
  | zero =>
    intro G f
    refine ⟨cnt_le _ _, fun k hk => ?_⟩
    have hk0 : k = 0 := by simpa using hk
    subst hk0
    show f (2 ^ 0 * G + 0) ↔ 0 < cnt _ (0 + 1)
    rw [cnt_succ, cnt_zero]
    split <;> simp_all
  | succ j ih =>
    intro G f
    have h := merge_sorted j G _ _ _ (ih (2 * G) f) (ih (2 * G + 1) f)
    have e : cnt (fun k => f (2 ^ (j + 1) * G + k)) (2 ^ (j + 1)) =
        cnt (fun k => f (2 ^ j * (2 * G) + k)) (2 ^ j) + cnt (fun k => f (2 ^ j * (2 * G + 1) + k)) (2 ^ j) := by
      rw [show 2 ^ (j + 1) = 2 ^ j + 2 ^ j by ring, cnt_add]
      congr 1
      · exact cnt_congr fun k _ => by rw [show (2 ^ j + 2 ^ j) * G + k = 2 ^ j * (2 * G) + k by ring]
      · exact cnt_congr fun k _ => by rw [show (2 ^ j + 2 ^ j) * G + (2 ^ j + k) = 2 ^ j * (2 * G + 1) + k by ring]
    rw [e]
    exact h

theorem cl_one (f : ℕ → Prop) : cl 1 f = mg 1 f := by
  funext k
  unfold cl mg
  simp only [Nat.div_one, Nat.mod_one, Nat.mul_one, Nat.sub_self, Nat.add_zero]

theorem min_add_min (a b n : ℕ) : min (min a n + min b n) n = min (a + b) n := by omega

end Cert.TopRows

end
-- ==== Proof.NetValue.lean ====
/- What the whole body computes in a lane, by counting: after the sort, the folds and the merge, the rows holding a value
   at least `t` are the first of the result, as many as the rows read had, cut at 128. -/
module

public import proofs.«01_k».proof.Proof.StageBits
public import proofs.«01_k».proof.Proof.Counting

@[expose] public section

noncomputable section

namespace Cert.TopRows

open Idealize.ShloMosaic Idealize.ShloMosaic.ValueIdx

variable {r : ℕ} (t : EReal) (l : Fin 128) (s : ℕ) (hs : s < 8)
include hs

theorem clean8_col (m : ℕ) (h : 2 * m * 8 = r) (x : FVec Ideal (Sh r) .f32) :
    col t (clean m 8 h x) l s = cl 1 (col t x l s) := clean_col m 1 h (by decide) x t l s hs
theorem clean16_col (m : ℕ) (h : 2 * m * 16 = r) (x : FVec Ideal (Sh r) .f32) :
    col t (clean m 16 h x) l s = cl 2 (col t x l s) := clean_col m 2 h (by decide) x t l s hs
theorem clean32_col (m : ℕ) (h : 2 * m * 32 = r) (x : FVec Ideal (Sh r) .f32) :
    col t (clean m 32 h x) l s = cl 4 (col t x l s) := clean_col m 4 h (by decide) x t l s hs
theorem clean64_col (m : ℕ) (h : 2 * m * 64 = r) (x : FVec Ideal (Sh r) .f32) :
    col t (clean m 64 h x) l s = cl 8 (col t x l s) := clean_col m 8 h (by decide) x t l s hs

theorem cleans64_col (G : ℕ) (h : 2 * G * 64 = r) (x : FVec Ideal (Sh r) .f32) :
    col t (cleans64 G h x) l s = chain 4 (col t x l s) := by
  unfold cleans64
  rw [clean8_col t l s hs, clean16_col t l s hs, clean32_col t l s hs, clean64_col t l s hs]
  rfl
theorem cleans128_col (G : ℕ) (hG : 2 ≤ 2 * G) (h : 2 * G * 128 = r) (x : FVec Ideal (Sh r) .f32) :
    col t (cleans128 G hG h x) l s = chain 5 (col t x l s) := by
  unfold cleans128
  rw [cleans64_col t l s hs, show col t (cleanWide G 128 hG h x) l s = cl 16 (col t x l s) from
    cleanWide_col G 16 hG h (by decide) x t l s hs]
  rfl
theorem cleans256_col (G : ℕ) (hG : 2 ≤ 2 * G) (h : 2 * G * 256 = r) (x : FVec Ideal (Sh r) .f32) :
    col t (cleans256 G hG h x) l s = chain 6 (col t x l s) := by
  unfold cleans256
  rw [cleans128_col t l s hs, show col t (cleanWide G 256 hG h x) l s = cl 32 (col t x l s) from
    cleanWide_col G 32 hG h (by decide) x t l s hs]
  rfl
theorem cleans512_col (G : ℕ) (hG : 2 ≤ 2 * G) (h : 2 * G * 512 = r) (x : FVec Ideal (Sh r) .f32) :
    col t (cleans512 G hG h x) l s = chain 7 (col t x l s) := by
  unfold cleans512
  rw [cleans256_col t l s hs, show col t (cleanWide G 512 hG h x) l s = cl 64 (col t x l s) from
    cleanWide_col G 64 hG h (by decide) x t l s hs]
  rfl

/-- The sort is the merge sort of every column. -/
theorem sortRuns_col (x : FVec Ideal (Sh 4096) .f32) : col t (sortRuns x) l s = lvl 7 (col t x l s) := by
  unfold sortRuns
  simp only [cleans256_col t l s hs, cleans128_col t l s hs, cleans64_col t l s hs, clean8_col t l s hs,
    clean16_col t l s hs, clean32_col t l s hs, mergeLevel_col _ _ _ _ _ _ _ _ t l s hs, cl_one (col t x l s)]
  rfl

theorem sortRuns_sorted (x : FVec Ideal (Sh 4096) .f32) (g : ℕ) :
    Srt 128 (col t (sortRuns x) l s) (128 * g) (cnt (fun k => col t x l s (128 * g + k)) 128) := by
  rw [sortRuns_col t l s hs]
  exact lvl_sorted 7 g _

theorem fold4096_sorted (x : FVec Ideal (Sh 4096) .f32) (g : ℕ) (hg : g < 2) (i j : ℕ)
    (hi : Srt 128 (col t x l s) (128 * g) i) (hj : Srt 128 (col t x l s) (256 + 128 * g) j) :
    Srt 128 (col t (fold4096 x) l s) (128 * g) (min (i + j) 128) := by
  unfold fold4096
  dsimp only
  rw [cleans512_col t l s hs]
  refine fold_sorted (K := 7) (G := g) hi hj fun k hk => ?_
  have hk' : k < 128 := hk
  unfold col
  show ge t _ l (8 * (128 * g + k) + s) ↔ ge t x l (8 * (128 * g + k) + s) ∨ ge t x l (8 * (256 + 128 * g + (127 - k)) + s)
  rw [ge_max, ge_rows, ge_stack _ _ (by decide) _ t l _ ⟨g, hg⟩ (by show _ = g; omega), ge_rev8 _ _ _ _ _ (by omega), ge_rows,
    ge_rows, show (8 * (128 * g + k) + s) % 1024 = 8 * k + s by omega, show (8 * k + s) / 8 = k by omega,
    show (8 * k + s) % 8 = s by omega]
  have e1 : 8 * (128 * g + k) + s < 2048 := by omega
  have e2 : 8 * (128 - 1 - k) + s < 1024 := by omega
  have e3 : 1024 * g + (8 * (128 - 1 - k) + s) < 2048 := by omega
  simp only [e1, e2, e3, true_and]
  rw [show 0 + (8 * (128 * g + k) + s) = 8 * (128 * g + k) + s by omega,
    show 2048 + (1024 * g + (8 * (128 - 1 - k) + s)) = 8 * (256 + 128 * g + (127 - k)) + s by omega]

theorem fold2048_sorted (x : FVec Ideal (Sh 2048) .f32) (i j : ℕ)
    (hi : Srt 128 (col t x l s) 0 i) (hj : Srt 128 (col t x l s) 128 j) :
    Srt 128 (col t (fold2048 x) l s) 0 (min (i + j) 128) := by
  unfold fold2048
  rw [cleans512_col t l s hs]
  refine fold_sorted (K := 7) (G := 0) hi hj fun k hk => ?_
  have hk' : k < 128 := hk
  unfold col
  show ge t _ l (8 * (0 + k) + s) ↔ ge t x l (8 * (0 + k) + s) ∨ ge t x l (8 * (128 + (127 - k)) + s)
  rw [ge_max, ge_rows, ge_rev8 _ _ _ _ _ (by omega), ge_rows, show (8 * (0 + k) + s) / 8 = k by omega,
    show (8 * (0 + k) + s) % 8 = s by omega]
  have e1 : 8 * (0 + k) + s < 1024 := by omega
  have e2 : 8 * (128 - 1 - k) + s < 1024 := by omega
  simp only [e1, e2, true_and]
  rw [show 0 + (8 * (0 + k) + s) = 8 * (0 + k) + s by omega,
    show 1024 + (8 * (128 - 1 - k) + s) = 8 * (128 + (127 - k)) + s by omega]

theorem foldBit_sorted {d e : ℕ} {w : BitVec 32} (hw : BitOf d w) (h : e + d = 1024) (hd : d = 1 ∨ d = 2 ∨ d = 4)
    (x : FVec Ideal (Sh 1024) .f32) (i j : ℕ) (hsd : s / d % 2 = 0)
    (hi : Srt 128 (col t x l s) 0 i) (hj : Srt 128 (col t x l (s + d)) 0 j) :
    Srt 128 (col t (foldBit d e w h x) l s) 0 (min (i + j) 128) := by
  unfold foldBit
  rw [cleans512_col t l s hs]
  refine fold_sorted (K := 7) (G := 0) hi hj fun k hk => ?_
  have hk' : k < 128 := hk
  unfold col
  show ge t _ l (8 * (0 + k) + s) ↔ ge t x l (8 * (0 + k) + s) ∨ ge t x l (8 * (0 + (127 - k)) + (s + d))
  rw [ge_max, ge_rev8 _ _ _ _ _ (by omega), show (8 * (0 + k) + s) / 8 = k by omega,
    show (8 * (0 + k) + s) % 8 = s by omega]
  have hm : ∃ m, 1024 = 2 * d * m := by
    rcases hd with rfl | rfl | rfl
    · exact ⟨512, rfl⟩
    · exact ⟨256, rfl⟩
    · exact ⟨128, rfl⟩
  obtain ⟨m, hm⟩ := hm
  have hb : ¬(8 * (128 - 1 - k) + s) / d % 2 = 1 := by
    rcases hd with rfl | rfl | rfl <;> omega
  rw [ge_partner hw h (by decide) (by omega) m hm _ _ _ (by omega), if_neg hb,
    show 8 * (128 - 1 - k) + s + d = 8 * (0 + (127 - k)) + (s + d) by omega]

theorem folded_sorted (x : FVec Ideal (Sh 4096) .f32) :
    Srt 128 (col t (fold2048 (fold4096 (sortRuns x))) l s) 0 (min (cnt (col t x l s) 512) 128) := by
  have h := fold2048_sorted t l s hs _ _ _
    (fold4096_sorted t l s hs _ 0 (by decide) _ _ (sortRuns_sorted t l s hs x 0) (sortRuns_sorted t l s hs x 2))
    (fold4096_sorted t l s hs _ 1 (by decide) _ _ (sortRuns_sorted t l s hs x 1) (sortRuns_sorted t l s hs x 3))
  have e : cnt (col t x l s) 512 = cnt (fun k => col t x l s (128 * 0 + k)) 128 + cnt (fun k => col t x l s (128 * 2 + k)) 128 +
      (cnt (fun k => col t x l s (128 * 1 + k)) 128 + cnt (fun k => col t x l s (128 * 3 + k)) 128) := by
    rw [show 512 = 128 + (128 + (128 + 128)) from rfl, cnt_add, cnt_add, cnt_add]
    have e0 : cnt (fun k => col t x l s (128 * 0 + k)) 128 = cnt (col t x l s) 128 :=
      cnt_congr fun k _ => by rw [Nat.mul_zero, Nat.zero_add]
    have e2 : cnt (fun k => col t x l s (128 * 2 + k)) 128 = cnt (fun k => col t x l s (128 + (128 + k))) 128 :=
      cnt_congr fun k _ => by rw [show 128 * 2 + k = 128 + (128 + k) by omega]
    have e3 : cnt (fun k => col t x l s (128 * 3 + k)) 128 = cnt (fun k => col t x l s (128 + (128 + (128 + k)))) 128 :=
      cnt_congr fun k _ => by rw [show 128 * 3 + k = 128 + (128 + (128 + k)) by omega]
    rw [e0, e2, e3, Nat.mul_one]
    omega
  rw [e, ← min_add_min]
  exact h

omit hs

/-- The candidates of a block: in ascending order, as many at least `t` as the block has, cut at 128. -/
theorem ge_blockTop (x : FVec Ideal (Sh 4096) .f32) (i : ℕ) (hi : i < 128) :
    ge t (blockTop x) l i ↔ 127 - i < min (cnt (ge t x l) 4096) 128 := by
  have f := fun s hs => folded_sorted t l s hs x
  have b1 := fun s hs hs' hd => foldBit_sorted t l s hs bitOf_one rfl (.inl rfl) _ _ _ hd (f s hs) (f (s + 1) hs')
  have b2 := fun s hs hs1 hs2 hs' hd hd1 hd2 => foldBit_sorted t l s hs bitOf_two rfl (.inr (.inl rfl)) _ _ _ hd
    (b1 s hs hs1 hd1) (b1 (s + 2) hs2 hs' hd2)
  have b4 := foldBit_sorted t l 0 (by decide) bitOf_four rfl (.inr (.inr rfl)) _ _ _ (by decide)
    (b2 0 (by decide) (by decide) (by decide) (by decide) (by decide) (by decide) (by decide))
    (b2 4 (by decide) (by decide) (by decide) (by decide) (by decide) (by decide) (by decide))
  simp only [min_add_min] at b4
  have ec : cnt (ge t x l) 4096 = cnt (col t x l 0) 512 + cnt (col t x l (0 + 1)) 512 +
      (cnt (col t x l (0 + 2)) 512 + cnt (col t x l (0 + 2 + 1)) 512) +
      (cnt (col t x l 4) 512 + cnt (col t x l (4 + 1)) 512 +
        (cnt (col t x l (4 + 2)) 512 + cnt (col t x l (4 + 2 + 1)) 512)) := by
    have h := cnt_eight (ge t x l) 512
    refine h.trans ?_
    show cnt (col t x l 0) 512 + cnt (col t x l 1) 512 + cnt (col t x l 2) 512 + cnt (col t x l 3) 512 +
      cnt (col t x l 4) 512 + cnt (col t x l 5) 512 + cnt (col t x l 6) 512 + cnt (col t x l 7) 512 = _
    simp only [Nat.zero_add, Nat.reduceAdd]
    omega
  rw [ec]
  rw [← b4.2 (127 - i) (by omega)]
  unfold col blockTop
  rw [ge_iff hi]
  have key : ∀ (x4 : FVec Ideal (Sh 1024) .f32) h1 h2 h3,
      shapeCast (Sh 128) (extractStridedSlice (Sh3 128 1) ![0, 0, 0]
        (shapeCast (Sh3 128 8) (rev8 128 (by decide) rfl x4) h1) h2) h3 (ix2 ⟨i, hi⟩ l)
      = rev8 128 (by decide) rfl x4 (ix2 ⟨8 * i, by omega⟩ l) := by
    intro x4 h1 h2 h3
    refine (shapeCast_apply _ _ _ (ix3 (⟨i, hi⟩ : Fin 128) (0 : Fin 1) l) ?_).trans
      ((extractStridedSlice_apply _ _ _ _ (ix3 (⟨i, hi⟩ : Fin 128) (0 : Fin 8) l) fun a => ?_).trans
        (shapeCast_apply _ _ _ _ ?_))
    · rw [Shape.rowMajor_val_three, Shape.rowMajor_val_two]
      show (i * 1 + 0) * 128 + l.val = i * 128 + l.val
      omega
    · match a with
      | ⟨0, _⟩ => exact (Nat.zero_add _).symm
      | ⟨1, _⟩ => rfl
      | ⟨2, _⟩ => exact (Nat.zero_add _).symm
    · rw [Shape.rowMajor_val_three, Shape.rowMajor_val_two]
      show 8 * i * 128 + l.val = (i * 8 + 0) * 128 + l.val
      omega
  rw [key, ← ge_iff (show 8 * i < 1024 by omega), ge_rev8 _ _ _ _ _ (by omega),
    show 8 * (128 - 1 - 8 * i / 8) + 8 * i % 8 = 8 * (0 + (127 - i)) + 0 by omega]

/-- The merge of the running rows and a block's candidates. -/
theorem mergeTop_sorted (acc : FVec Ideal (Sh 128) .f32) (x : FVec Ideal (Sh 4096) .f32) (c : ℕ)
    (h : Srt 128 (ge t acc l) 0 c) :
    Srt 128 (ge t (mergeTop acc (blockTop x)) l) 0 (min (c + cnt (ge t x l) 4096) 128) := by
  unfold mergeTop cleans64
  rw [cleanNear_cl bitOf_one _ (by decide) 64 rfl, cleanNear_cl bitOf_two _ (by decide) 32 rfl,
    cleanNear_cl bitOf_four _ (by decide) 16 rfl, clean_cl _ _ _ (by decide), clean_cl _ _ _ (by decide),
    clean_cl _ _ _ (by decide), clean_cl _ _ _ (by decide)]
  have hc : c ≤ 128 := h.1
  have e : min (c + cnt (ge t x l) 4096) 128 = min (c + min (cnt (ge t x l) 4096) 128) 128 := by omega
  rw [e]
  refine fold_sorted (K := 7) (G := 0) (g := fun k => ge t (blockTop x) l (127 - k)) (b2 := 0) h
    ⟨Nat.min_le_right _ _, fun k hk => ?_⟩ fun k hk => ?_
  · have hk' : k < 128 := hk
    show ge t (blockTop x) l (127 - (0 + k)) ↔ _
    rw [ge_blockTop t l x _ (by omega), show 127 - (127 - (0 + k)) = k by omega]
  · have hk' : k < 128 := hk
    show ge t (maximumf acc (blockTop x)) l (0 + k) ↔ ge t acc l (0 + k) ∨ ge t (blockTop x) l (127 - (0 + (127 - k)))
    rw [ge_max, show 127 - (0 + (127 - k)) = 0 + k by omega]

end Cert.TopRows

end
-- ==== Proof.KernelArray.lean ====
/- The kernel's result array: what every element is, and how many of the argument's rows hold a value at least `t` where
   that element does. -/
module

public import proofs.«01_k».proof.Proof.RunValue
public import proofs.«01_k».proof.Proof.NetValue
public import Idealize.ShloMosaic.Lib.Pipeline.Value
public import Idealize.ShloMosaic.Lib.Tactic

@[expose] public section

noncomputable section

namespace Cert.KernelIdeal.Gen

open Idealize.ShloMosaic Idealize.ShloMosaic.TcCoe Idealize.SL.Sem Idealize.ShloMosaic.ValueIdx
open Idealize.ShloMosaic.Pipeline (Dat)

section array

variable {F : FTy → Type} [FloatOps F]
variable (m : (ℓ : Loc nD τ sig) → Buf (Elt F) ℓ)

/-- Where each window's block lies at a point of the grid. -/
theorem index_in (t : Fin cfg0.N) : win0_0.index t 0 = t.val / 16 ∧ win0_0.index t 1 = t.val % 2 ∧
    win0_0.index t 2 = 0 ∧ win0_0.index t 3 = t.val / 2 % 8 := by
  have ht : t.val < 64 := Nat.lt_of_lt_of_eq t.isLt N_0
  have e0 : (grid0.coords t 0).val = t.val / 16 % 4 := Pipeline.Grid.coords_val t 0 (by decide) rfl
  have e1 : (grid0.coords t 1).val = t.val / 2 % 8 := Pipeline.Grid.coords_val t 1 (by decide) rfl
  have e2 : (grid0.coords t 2).val = t.val / 1 % 2 := Pipeline.Grid.coords_val t 2 (by decide) rfl
  refine ⟨?_, ?_, rfl, ?_⟩
  · show (BitVec.ofNat 32 (grid0.coords t 0).val).toNat = _
    rw [e0, BitVec.toNat_ofNat]; omega
  · show (BitVec.ofNat 32 (grid0.coords t 2).val).toNat = _
    rw [e2, BitVec.toNat_ofNat]; omega
  · show (BitVec.ofNat 32 (grid0.coords t 1).val).toNat = _
    rw [e1, BitVec.toNat_ofNat]; omega

theorem index_out (t : Fin cfg0.N) : win0_1.index t 0 = t.val / 16 ∧ win0_1.index t 1 = 0 ∧
    win0_1.index t 2 = 0 ∧ win0_1.index t 3 = t.val / 2 % 8 := by
  have ht : t.val < 64 := Nat.lt_of_lt_of_eq t.isLt N_0
  have e0 : (grid0.coords t 0).val = t.val / 16 % 4 := Pipeline.Grid.coords_val t 0 (by decide) rfl
  have e1 : (grid0.coords t 1).val = t.val / 2 % 8 := Pipeline.Grid.coords_val t 1 (by decide) rfl
  refine ⟨?_, rfl, rfl, ?_⟩
  · show (BitVec.ofNat 32 (grid0.coords t 0).val).toNat = _
    rw [e0, BitVec.toNat_ofNat]; omega
  · show (BitVec.ofNat 32 (grid0.coords t 1).val).toNat = _
    rw [e1, BitVec.toNat_ofNat]; omega

/-- The point that writes back batch `b`'s channels `128 L + …`. -/
def lastPoint (b L : ℕ) (hb : b < 4) (hL : L < 8) : Fin cfg0.N :=
  ⟨16 * b + 2 * L + 1, by rw [show cfg0.N = 64 from N_0]; omega⟩

/-- What the result array ends holding. -/
def result (c : Dev nD) : Buf (Elt F) ((c : Thread nD τ).loc main_v0) := fun i : S4x128x1x1024.Idx =>
  have h0 : (i 0).val < 4 := (i 0).isLt
  have h3 : (i 3).val < 1024 := (i 3).isLt
  have t : Fin cfg0.N := lastPoint (i 0).val ((i 3).val / 128) h0 (by omega)
  outsAt0 m c t.val t.isLt (ix4 (0 : Fin 1) (⟨(i 1).val, (i 1).isLt⟩ : Fin 128) (0 : Fin 1) (⟨(i 3).val % 128, by omega⟩ : Fin 128))

theorem flushed_eq (c : Dev nD) (t : Fin cfg0.N) (hf : (cfg0.win 1).flush t = true) :
    (dats m 0 c).flushed 1 t = ((cfg0.win 1).blk t).view.read (Elt F) (result m c) := by
  have ht : t.val < 64 := Nat.lt_of_lt_of_eq t.isLt N_0
  have h1 : t.val % 2 = 1 := (flush0_1 t).mp hf
  show (cfg0.win 1).cut (grid0.coords t) ((dats m 0 c).after 1 t) = _
  rw [after0_1]
  obtain ⟨e0, e1, e2, e3⟩ := index_out t
  funext j
  rw [View.read_apply]
  have j0 : (j 0).val < 1 := (j 0).isLt
  have j1 : (j 1).val < 128 := (j 1).isLt
  have j2 : (j 2).val < 1 := (j 2).isLt
  have j3 : (j 3).val < 128 := (j 3).isLt
  have k0 : (((cfg0.win 1).blk t).view.emb j 0).val = t.val / 16 := by
    show win0_1.index t 0 * 1 + 1 * (j 0).val = _
    rw [e0]; omega
  have k1 : (((cfg0.win 1).blk t).view.emb j 1).val = (j 1).val := by
    show win0_1.index t 1 * 128 + 1 * (j 1).val = _
    rw [e1]; omega
  have k3 : (((cfg0.win 1).blk t).view.emb j 3).val = 128 * (t.val / 2 % 8) + (j 3).val := by
    show win0_1.index t 3 * 128 + 1 * (j 3).val = _
    rw [e3]; omega
  have hpt : ∀ (t' : Fin cfg0.N) (y y' : S1x128x1x128.Idx), t' = t → y' = y →
      outsAt0 m c t.val t.isLt y = outsAt0 m c t'.val t'.isLt y' := by
    rintro _ _ _ rfl rfl; rfl
  refine hpt _ _ _ (Fin.ext ?_) ?_
  · show 16 * (((cfg0.win 1).blk t).view.emb j 0).val + 2 * ((((cfg0.win 1).blk t).view.emb j 3).val / 128) + 1 = t.val
    rw [k0, k3]; omega
  · funext a
    refine Fin.ext ?_
    match a with
    | ⟨0, _⟩ => exact (show 0 = (j 0).val by omega)
    | ⟨1, _⟩ => exact k1
    | ⟨2, _⟩ => exact (show 0 = (j 2).val by omega)
    | ⟨3, _⟩ =>
      show (((cfg0.win 1).blk t).view.emb j 3).val % 128 = (j 3).val
      rw [k3]; omega

/-- The points that write back cover the result array. -/
theorem final_o (c : Dev nD) : (dats m 0 c).arrAt 1 cfg0.N = result m c :=
  (dats m 0 c).arrAt_eq_of_cover 1 (result m c) (flushed_eq m c) fun i => by
    have h0 : (i 0 : Nat) < 4 := (i 0).isLt
    have h1 : (i 1 : Nat) < 128 := (i 1).isLt
    have h2 : (i 2 : Nat) < 1 := (i 2).isLt
    have h3 : (i 3 : Nat) < 1024 := (i 3).isLt
    have hL : (i 3 : Nat) / 128 < 8 := by omega
    refine ⟨lastPoint (i 0) ((i 3 : Nat) / 128) h0 hL, (flush0_1 _).mpr ?_, ?_⟩
    · show (16 * (i 0 : Nat) + 2 * ((i 3 : Nat) / 128) + 1) % 2 = 1
      omega
    · obtain ⟨e0, e1, e2, e3⟩ := index_out (lastPoint (i 0) ((i 3 : Nat) / 128) h0 hL)
      show i ∈ ((View.whole main_v0).slice (win0_1.rect (lastPoint (i 0) ((i 3 : Nat) / 128) h0 hL))).set
      rw [View.set_slice_whole, Rect.mem_set_unit]
      intro a
      match a with
      | ⟨0, _⟩ =>
        show win0_1.index _ 0 * 1 ≤ (i 0 : Nat) ∧ (i 0 : Nat) < win0_1.index _ 0 * 1 + 1
        rw [e0]; show (16 * (i 0 : Nat) + 2 * ((i 3 : Nat) / 128) + 1) / 16 * 1 ≤ (i 0 : Nat) ∧ (i 0 : Nat) < (16 * (i 0 : Nat) + 2 * ((i 3 : Nat) / 128) + 1) / 16 * 1 + 1; omega
      | ⟨1, _⟩ =>
        show win0_1.index _ 1 * 128 ≤ (i 1 : Nat) ∧ (i 1 : Nat) < win0_1.index _ 1 * 128 + 128
        rw [e1]; omega
      | ⟨2, _⟩ =>
        show win0_1.index _ 2 * 1 ≤ (i 2 : Nat) ∧ (i 2 : Nat) < win0_1.index _ 2 * 1 + 1
        rw [e2]; omega
      | ⟨3, _⟩ =>
        show win0_1.index _ 3 * 128 ≤ (i 3 : Nat) ∧ (i 3 : Nat) < win0_1.index _ 3 * 128 + 128
        rw [e3]; show (16 * (i 0 : Nat) + 2 * ((i 3 : Nat) / 128) + 1) / 2 % 8 * 128 ≤ (i 3 : Nat) ∧ (i 3 : Nat) < (16 * (i 0 : Nat) + 2 * ((i 3 : Nat) / 128) + 1) / 2 % 8 * 128 + 128; omega

/-- The run, read: the result array as named, the argument unchanged. -/
theorem run (ρ : Dev nD → PrngReg) : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨((h c).1 1).trans (final_o m c), ((h c).1 0).trans ((dats m 0 c).arrAt_in 0 rfl _)⟩)
    (run_main m ρ)

/-- An element of the block a point reads. -/
theorem iblk_apply (c : Dev nD) (t : Fin cfg0.N) (p : Fin 4096) (l : Fin 128) (j : S4x8192x1x1024.Idx)
    (h0 : (j 0).val = t.val / 16) (h1 : (j 1).val = 4096 * (t.val % 2) + p.val) (h2 : (j 2).val = 0)
    (h3 : (j 3).val = 128 * (t.val / 2 % 8) + l.val) :
    (iblk m c 0 t : Vec F S1x4096x1x128 .f32) (ix4 (0 : Fin 1) p (0 : Fin 1) l) = m ((c : Thread nD τ).loc main_arg0) j := by
  obtain ⟨e0, e1, e2, e3⟩ := index_in t
  unfold iblk
  rw [View.read_apply]
  show V m c main_arg0 _ = m (c.tc.loc main_arg0) _
  unfold V
  congr 1
  funext a
  apply Fin.ext
  match a with
  | ⟨0, _⟩ => show win0_0.index t 0 * 1 + 1 * 0 = (j 0).val; rw [e0, h0]; omega
  | ⟨1, _⟩ => show win0_0.index t 1 * 4096 + 1 * p.val = (j 1).val; rw [e1, h1]; omega
  | ⟨2, _⟩ => show win0_0.index t 2 * 1 + 1 * 0 = (j 2).val; rw [e2, h2]
  | ⟨3, _⟩ => show win0_0.index t 3 * 128 + 1 * l.val = (j 3).val; rw [e3, h3]; omega

end array

/-! ### At the ideal reading -/

open TopRows

theorem cast_in_apply (x : Vec Ideal S1x4096x1x128 .f32) (p : Fin 4096) (l : Fin 128) :
    shapeCast S4096x128 x shapeCasts_S1x4096x1x128_S4096x128 (ix2 p l) = x (ix4 (0 : Fin 1) p (0 : Fin 1) l) := by
  refine shapeCast_apply x _ _ _ ?_
  rw [Shape.rowMajor_val_four, Shape.rowMajor_val_two]
  show ((0 * 4096 + p.val) * 1 + 0) * 128 + l.val = p.val * 128 + l.val
  omega

theorem cast_acc_apply (x : Vec Ideal S1x128x1x128 .f32) (p : Fin 128) (l : Fin 128) :
    shapeCast S128x128 x shapeCasts_S1x128x1x128_S128x128 (ix2 p l) = x (ix4 (0 : Fin 1) p (0 : Fin 1) l) := by
  refine shapeCast_apply x _ _ _ ?_
  rw [Shape.rowMajor_val_four, Shape.rowMajor_val_two]
  show ((0 * 128 + p.val) * 1 + 0) * 128 + l.val = p.val * 128 + l.val
  omega

theorem cast_out_apply (x : Vec Ideal S128x128 .f32) (p : Fin 128) (l : Fin 128) :
    shapeCast S1x128x1x128 x shapeCasts_S128x128_S1x128x1x128 (ix4 (0 : Fin 1) p (0 : Fin 1) l) = x (ix2 p l) := by
  refine shapeCast_apply x _ _ _ ?_
  rw [Shape.rowMajor_val_four, Shape.rowMajor_val_two]
  show p.val * 128 + l.val = ((0 * 128 + p.val) * 1 + 0) * 128 + l.val
  omega

theorem cast_back (x : Vec Ideal S128x128 .f32) :
    shapeCast S128x128 (shapeCast S1x128x1x128 x shapeCasts_S128x128_S1x128x1x128) shapeCasts_S1x128x1x128_S128x128 = x := by
  funext j
  rw [eq_ix2 j]
  exact (cast_acc_apply _ _ _).trans (cast_out_apply _ _ _)

/-- The accumulator as rows. -/
abbrev accRows (v : Vec Ideal S1x128x1x128 .f32) : FVec Ideal (Sh 128) .f32 :=
  shapeCast S128x128 v shapeCasts_S1x128x1x128_S128x128
/-- An input block as rows. -/
abbrev inRows (x : Vec Ideal S1x4096x1x128 .f32) : FVec Ideal (Sh 4096) .f32 :=
  shapeCast S4096x128 x shapeCasts_S1x4096x1x128_S4096x128

theorem step_sorted (t : EReal) (l : Fin 128) (x : Vec Ideal S1x4096x1x128 .f32) (acc : Vec Ideal S1x128x1x128 .f32) (n : ℕ)
    (h : Srt 128 (ge t (accRows acc) l) 0 n) :
    Srt 128 (ge t (accRows (stepVal x acc)) l) 0 (min (n + cnt (ge t (inRows x) l) 4096) 128) := by
  have e : accRows (stepVal x acc) = mergeTop (accRows acc) (blockTop (inRows x)) := cast_back _
  rw [e]
  exact mergeTop_sorted t l _ _ n h

theorem negInf : (Scalar.ofBits .f32 0xFF800000#32 : Ideal .f32) = (⊥ : EReal) := by
  show Ideal.ofBits .f32 0xFF800000#32 = ⊥
  simp [Ideal.ofBits, Ideal.ieee]

/-- Nothing of the floor reaches a threshold above −∞. -/
theorem floor_sorted (t : EReal) (ht : t ≠ ⊥) (l : Fin 128) : Srt 128 (ge t (accRows floorVal) l) 0 0 := by
  refine ⟨Nat.zero_le _, fun k hk => iff_of_false ?_ (Nat.not_lt_zero _)⟩
  rintro ⟨hp, h⟩
  have e : accRows (floorVal (F := Ideal)) = broadcast S128x128 (Scalar.ofBits .f32 0xFF800000#32 : Ideal .f32) := cast_back _
  rw [e] at h
  have h' : t ≤ (Scalar.ofBits .f32 0xFF800000#32 : Ideal .f32) := h
  rw [negInf] at h'
  exact ht (le_bot_iff.1 h')

/-- The result's `i`-th row of a channel reaches `t` when more than `i` of the argument's 8192 rows do. -/
theorem result_apply (m : (ℓ : Loc nD τ sig) → Buf (Elt Ideal) ℓ) (c : Dev nD) (t : EReal) (ht : t ≠ ⊥) (b : Fin 4)
    (i : Fin 128) (ch : Fin 1024) :
    t ≤ (result m c : S4x128x1x1024.Idx → EReal) (ix4 b i (0 : Fin 1) ch) ↔
      i.val < cnt (fun p => ∃ h : p < 8192,
        t ≤ (m ((c : Thread nD τ).loc main_arg0) : S4x8192x1x1024.Idx → EReal) (ix4 b ⟨p, h⟩ (0 : Fin 1) ch)) 8192 := by
  have hb := b.isLt
  have hch := ch.isLt
  have hi := i.isLt
  have hL : ch.val / 128 < 8 := by omega
  let T : Fin cfg0.N := lastPoint b.val (ch.val / 128) hb hL
  let l : Fin 128 := ⟨ch.val % 128, by omega⟩
  have hT : T.val = 16 * b.val + 2 * (ch.val / 128) + 1 := rfl
  have hT' : T.val - 1 < cfg0.N := Nat.lt_of_le_of_lt (Nat.sub_le _ _) T.isLt
  have e : (result m c : S4x128x1x1024.Idx → EReal) (ix4 b i (0 : Fin 1) ch) =
      outsAt0 m c T.val T.isLt (ix4 (0 : Fin 1) i (0 : Fin 1) l) := rfl
  let Q : ℕ → Prop := fun p => ∃ h : p < 8192,
    t ≤ (m ((c : Thread nD τ).loc main_arg0) : S4x8192x1x1024.Idx → EReal) (ix4 b ⟨p, h⟩ (0 : Fin 1) ch)
  have er : ∀ (t' : Fin cfg0.N) (s : ℕ) (hs : s < 2), t'.val = 16 * b.val + 2 * (ch.val / 128) + s →
      cnt (ge t (inRows (iblk m c 0 t')) l) 4096 = cnt (fun p => Q (4096 * s + p)) 4096 := by
    intro t' s hs h'
    refine cnt_congr fun p hp => ?_
    have hlt : 4096 * s + p < 8192 := by omega
    rw [ge_iff hp]
    refine Iff.trans ?_ ⟨fun h => ⟨hlt, h⟩, fun ⟨_, h⟩ => h⟩
    rw [show inRows (iblk m c 0 t') (ix2 ⟨p, hp⟩ l) = _ from cast_in_apply _ _ _]
    rw [iblk_apply m c t' ⟨p, hp⟩ l (ix4 b ⟨4096 * s + p, hlt⟩ (0 : Fin 1) ch) (by show b.val = _; omega)
      (by show 4096 * s + p = 4096 * (t'.val % 2) + p; rw [show t'.val % 2 = s by omega]) rfl
      (by show ch.val = 128 * (t'.val / 2 % 8) + ch.val % 128; omega)]
  have hs := step_sorted t l (iblk m c 0 T) _ _
    (step_sorted t l (iblk m c 0 ⟨T.val - 1, hT'⟩) _ _ (floor_sorted t ht l))
  have hg := hs.2 i.val hi
  rw [Nat.zero_add, ge_iff hi, er ⟨T.val - 1, hT'⟩ 0 (by decide) (by show T.val - 1 = _; omega), er T 1 (by decide) hT] at hg
  have e0 : cnt (fun p => Q (4096 * 0 + p)) 4096 = cnt Q 4096 :=
    cnt_congr fun p _ => iff_of_eq (congrArg Q (by omega))
  have e1 : cnt (fun p => Q (4096 * 1 + p)) 4096 = cnt (fun p => Q (4096 + p)) 4096 :=
    cnt_congr fun p _ => iff_of_eq (congrArg Q (by omega))
  have hc : cnt Q 8192 = cnt Q 4096 + cnt (fun p => Q (4096 + p)) 4096 := cnt_add Q 4096 4096
  rw [e, outsAt_odd m c T (by omega) hT']
  refine Iff.trans (iff_of_eq (congrArg (t ≤ ·) (cast_acc_apply _ i l).symm)) (hg.trans ?_)
  show _ ↔ i.val < cnt Q 8192
  rw [e0, e1, hc]
  omega

end Cert.KernelIdeal.Gen

end
-- ==== Proof.RefValue.lean ====
/- The reference at the ideal reading, seen through a threshold: the `i`-th of its 128 rows holds a value at least `t` when
   more than `i` of the 8192 rows of the argument do. -/
module

public import proofs.«01_k».proof.Proof.Gen.ReferenceIdeal.Run
public import proofs.«01_k».proof.Proof.Counting
public import Idealize.ShloMosaic.Lib.ValueIdx
public import Idealize.ShloMosaic.Lib.SortFacts
public import Idealize.ShloMosaic.Lib.Pipeline.Value
public import Idealize.ShloMosaic.PureOps.Ideal

@[expose] public section

noncomputable section

namespace Cert.TopRows

theorem card_eq_cnt_of {n : ℕ} (P : Fin n → Prop) [DecidablePred P] (q : ℕ → Prop) (hq : ∀ p, q p ↔ ∃ h : p < n, P ⟨p, h⟩) :
    (Finset.univ.filter P).card = cnt q n := by
  classical
  unfold cnt
  rw [Nat.count_eq_card_filter_range]
  refine Finset.card_bij (fun a _ => a.val) (fun a ha => ?_) (fun a _ b _ h => Fin.ext h) fun p hp => ?_
  · exact Finset.mem_filter.2 ⟨Finset.mem_range.2 a.isLt, (hq _).2 ⟨a.isLt, (Finset.mem_filter.1 ha).2⟩⟩
  · obtain ⟨h, h'⟩ := (hq p).1 (Finset.mem_filter.1 hp).2
    exact ⟨⟨p, h⟩, Finset.mem_filter.2 ⟨Finset.mem_univ _, h'⟩, rfl⟩

/-- The count of a predicate on `Fin n`. -/
theorem card_eq_cnt {n : ℕ} (P : Fin n → Prop) [DecidablePred P] :
    (Finset.univ.filter P).card = cnt (fun p => ∃ h : p < n, P ⟨p, h⟩) n := card_eq_cnt_of P _ fun _ => Iff.rfl

/-- Two extended reals that reach the same thresholds above −∞ are equal. -/
theorem eq_of_thresholds {a b : EReal} (h : ∀ t : EReal, t ≠ ⊥ → (t ≤ a ↔ t ≤ b)) : a = b := by
  refine le_antisymm ?_ ?_
  · by_cases ha : a = ⊥
    · rw [ha]; exact bot_le
    · exact (h a ha).1 le_rfl
  · by_cases hb : b = ⊥
    · rw [hb]; exact bot_le
    · exact (h b hb).2 le_rfl

/-- Keys rearranged into descending order: the `k`-th is at least `t` when more than `k` keys are. -/
theorem antitone_count {n : ℕ} (key : Fin n → EReal) (σ : Fin n → Fin n) (hσ : Function.Bijective σ)
    (hd : ∀ i j, i < j → key (σ j) ≤ key (σ i)) (t : EReal) (k : Fin n) :
    t ≤ key (σ k) ↔ k.val < cnt (fun p => ∃ h : p < n, t ≤ key ⟨p, h⟩) n := by
  classical
  rw [← card_eq_cnt fun p => t ≤ key p]
  have e : (Finset.univ.filter fun p => t ≤ key p).card = (Finset.univ.filter fun p => t ≤ key (σ p)).card := by
    refine (Finset.card_bij (fun a _ => σ a) (fun a ha => ?_) (fun a _ b _ h => hσ.1 h) fun p hp => ?_).symm
    · exact Finset.mem_filter.2 ⟨Finset.mem_univ _, (Finset.mem_filter.1 ha).2⟩
    · obtain ⟨a, rfl⟩ := hσ.2 p
      exact ⟨a, Finset.mem_filter.2 ⟨Finset.mem_univ _, (Finset.mem_filter.1 hp).2⟩, rfl⟩
  rw [e]
  constructor
  · intro h
    have hsub : Finset.Iic k ⊆ Finset.univ.filter fun p => t ≤ key (σ p) := fun p hp => by
      refine Finset.mem_filter.2 ⟨Finset.mem_univ _, ?_⟩
      rcases (Finset.mem_Iic.1 hp).lt_or_eq with hlt | rfl
      · exact h.trans (hd p k hlt)
      · exact h
    have := Finset.card_le_card hsub
    rw [Fin.card_Iic] at this
    omega
  · intro h
    by_contra hn
    have hsub : (Finset.univ.filter fun p => t ≤ key (σ p)) ⊆ Finset.Iio k := fun p hp => by
      rw [Finset.mem_Iio]
      by_contra hkp
      rcases (not_lt.1 hkp).lt_or_eq with hlt | rfl
      · exact hn ((Finset.mem_filter.1 hp).2.trans (hd k p hlt))
      · exact hn (Finset.mem_filter.1 hp).2
    have := Finset.card_le_card hsub
    rw [Fin.card_Iio] at this
    omega

end Cert.TopRows

namespace Cert.ReferenceIdeal.Value

open Cert.ReferenceIdeal Cert.ReferenceIdeal.Gen Idealize.ShloMosaic Idealize.ShloMosaic.ValueIdx Cert.TopRows

theorem gt_iff (x y : EReal) : ((FloatOps.cmpfTotal .gt : Ideal .f32 → Ideal .f32 → BitVec 1) x y == 1#1) = decide (y < x) := by
  show (BitVec.ofBool (decide (y < x)) == 1#1) = _
  cases decide (y < x) <;> rfl

/-- A stable sort by "greater first" leaves the keys in descending order. -/
theorem sorted_desc {n : ℕ} (key : Fin n → EReal) (i j : Fin n) (h : i < j) :
    key (sortedFrom (fun k k' => decide (key k' < key k)) j) ≤ key (sortedFrom (fun k k' => decide (key k' < key k)) i) := by
  have := sortedFrom_noInversion (fun k k' => decide (key k' < key k)) (fun k k' => decide (key k' < key k))
    (fun a b hab => decide_eq_false (not_lt.2 (le_of_lt (of_decide_eq_true hab)))) (fun _ _ h => h)
    (fun a b c hab hbc => decide_eq_false (not_lt.2 ((not_lt.1 (of_decide_eq_false hab)).trans (not_lt.1 (of_decide_eq_false hbc)))))
    i j h
  exact not_lt.1 (of_decide_eq_false this)

/-- The reference's result as one function of its argument. -/
def refOut (x : S4x8192x1x1024.Idx → EReal) : S4x128x1x1024.Idx → EReal :=
  transpose S4x128x1x1024 [0, 3, 2, 1] ((Host.topK S4x1024x1x128 3 (FloatOps.cmpfTotal (F := Ideal) (φ := .f32) .gt)
    (transpose S4x1024x1x8192 [0, 3, 2, 1] x transposes_S4x8192x1x1024_S4x1024x1x8192_0_3_2_1)
    sliceFits_S4x1024x1x8192_S4x1024x1x128).1) transposes_S4x1024x1x128_S4x128x1x1024_0_3_2_1

theorem along_last (b : Fin 4) (ch : Fin 1024) (z : Fin 1) (k k' : Fin 8192) :
    Shape.Idx.along (s := S4x1024x1x8192) (ix4 b ch z k) (3 : Fin 4) k' = ix4 b ch z k' := by
  funext a
  unfold Shape.Idx.along
  match a with
  | ⟨0, _⟩ => rfl
  | ⟨1, _⟩ => rfl
  | ⟨2, _⟩ => rfl
  | ⟨3, _⟩ => rfl

theorem refOut_apply (x : S4x8192x1x1024.Idx → EReal) (t : EReal) (b : Fin 4) (i : Fin 128) (ch : Fin 1024) :
    t ≤ refOut x (ix4 b i (0 : Fin 1) ch) ↔
      i.val < cnt (fun p => ∃ h : p < 8192, t ≤ x (ix4 b ⟨p, h⟩ (0 : Fin 1) ch)) 8192 := by
  have hx : ∀ k : Fin 8192, transpose S4x1024x1x8192 [0, 3, 2, 1] x transposes_S4x8192x1x1024_S4x1024x1x8192_0_3_2_1
      (ix4 b ch (0 : Fin 1) k) = x (ix4 b k (0 : Fin 1) ch) := fun k =>
    transpose_apply _ x _ _ _ fun a => by
      match a with
      | ⟨0, _⟩ => rfl
      | ⟨1, _⟩ => rfl
      | ⟨2, _⟩ => rfl
      | ⟨3, _⟩ => rfl
  have e : refOut x (ix4 b i (0 : Fin 1) ch) = x (ix4 b (sortedFrom (fun k k' : Fin 8192 =>
      decide (x (ix4 b k' (0 : Fin 1) ch) < x (ix4 b k (0 : Fin 1) ch))) ⟨i.val, by omega⟩) (0 : Fin 1) ch) := by
    unfold refOut
    refine (transpose_apply _ _ _ _ (ix4 b ch (0 : Fin 1) i) fun a => ?_).trans ?_
    · match a with
      | ⟨0, _⟩ => rfl
      | ⟨1, _⟩ => rfl
      | ⟨2, _⟩ => rfl
      | ⟨3, _⟩ => rfl
    · unfold Host.topK
      dsimp only
      refine (extractStridedSlice_apply _ _ _ _ (ix4 b ch (0 : Fin 1) (⟨i.val, by omega⟩ : Fin 8192)) fun a => ?_).trans ?_
      · match a with
        | ⟨0, _⟩ => exact (Nat.zero_add _).symm
        | ⟨1, _⟩ => exact (Nat.zero_add _).symm
        | ⟨2, _⟩ => exact (Nat.zero_add _).symm
        | ⟨3, _⟩ => exact (Nat.zero_add _).symm
      · unfold Host.sort2
        rw [dif_pos (show 3 < S4x1024x1x8192.rank by decide)]
        show transpose S4x1024x1x8192 [0, 3, 2, 1] x transposes_S4x8192x1x1024_S4x1024x1x8192_0_3_2_1
          (Shape.Idx.along (s := S4x1024x1x8192) (ix4 b ch (0 : Fin 1) (⟨i.val, by omega⟩ : Fin 8192)) (3 : Fin 4)
            (sortedFrom (fun k k' : Fin 8192 => (FloatOps.cmpfTotal .gt : Ideal .f32 → Ideal .f32 → BitVec 1)
              (transpose S4x1024x1x8192 [0, 3, 2, 1] x transposes_S4x8192x1x1024_S4x1024x1x8192_0_3_2_1
                (Shape.Idx.along (s := S4x1024x1x8192) (ix4 b ch (0 : Fin 1) (⟨i.val, by omega⟩ : Fin 8192)) (3 : Fin 4) k))
              (transpose S4x1024x1x8192 [0, 3, 2, 1] x transposes_S4x8192x1x1024_S4x1024x1x8192_0_3_2_1
                (Shape.Idx.along (s := S4x1024x1x8192) (ix4 b ch (0 : Fin 1) (⟨i.val, by omega⟩ : Fin 8192)) (3 : Fin 4) k')) == 1#1)
              (⟨i.val, by omega⟩ : Fin 8192))) = _
        simp only [along_last, hx, gt_iff]
        exact (congrArg _ (along_last b ch 0 _ _)).trans (hx _)
  rw [e]
  exact antitone_count (fun k => x (ix4 b k (0 : Fin 1) ch)) _ ⟨sortedFrom_injective _, sortedFrom_surjective _⟩
    (fun i j h => sorted_desc (fun k => x (ix4 b k (0 : Fin 1) ch)) i j h) t ⟨i.val, by omega⟩

end Cert.ReferenceIdeal.Value

end
-- ==== Proof.lean ====
/- The certificate of the k-max pooling kernel: the three frames, the idealization and the value claim.
   Proof/Stages.lean names the stages of the kernel's body, Proof/RunValue.lean reads the body's run back as those stages,
   Proof/Bitonic.lean is the sorting network on truth values, Proof/StageValue.lean, StageBits.lean and NetValue.lean
   compute the stages through a threshold, Proof/KernelArray.lean reads the kernel's result array, Proof/RefValue.lean the
   reference's. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelArray
public import proofs.«01_k».proof.Proof.RefValue
public import Idealize.ShloMosaic.Lib.Quiescent

@[expose] public section

noncomputable section

namespace Cert.Proof

open Idealize.ShloMosaic Idealize.ShloMosaic.TcCoe Idealize.SL.Sem Idealize.ShloMosaic.ValueIdx

/-- The kernel on machine words runs and leaves its argument and the counters as they were. -/
theorem frame_kernel : Cert.quiescent_Kernel := fun m ρ _ => Cert.Kernel.Gen.frame m ρ

/-- The idealized kernel runs and leaves its argument and the counters as they were. -/
theorem frame_kernelIdeal : Cert.quiescent_KernelIdeal := fun m ρ _ => Cert.KernelIdeal.Gen.frame m ρ

/-- The reference runs and leaves its argument as it was; it has no counter. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two results are one array, when the arguments are. -/
theorem values_eq (m : (ℓ : Loc Cert.KernelIdeal.nD Cert.KernelIdeal.τ Cert.KernelIdeal.sig) → Buf (Elt Ideal) ℓ)
    (c : Dev Cert.KernelIdeal.nD) :
    Cert.ReferenceIdeal.Value.refOut (m ((c : Thread Cert.KernelIdeal.nD Cert.KernelIdeal.τ).loc Cert.KernelIdeal.main_arg0)) =
      Cert.KernelIdeal.Gen.result m c := by
  funext j
  have e : j = ix4 (j 0 : Fin 4) (j 1 : Fin 128) (0 : Fin 1) (j 3 : Fin 1024) := by
    funext a
    match a with
    | ⟨0, _⟩ => rfl
    | ⟨1, _⟩ => rfl
    | ⟨2, _⟩ => exact Subsingleton.elim (α := Fin 1) _ _
    | ⟨3, _⟩ => rfl
  rw [e]
  exact TopRows.eq_of_thresholds fun t ht => (Cert.ReferenceIdeal.Value.refOut_apply _ t (j 0) (j 1) (j 3)).trans
    (Cert.KernelIdeal.Gen.result_apply m c t ht (j 0) (j 1) (j 3)).symm

/-- Over the extended reals the kernel and the reference end with the same result. -/
theorem algebraic : Cert.algebraic_KernelIdeal_ReferenceIdeal := by
  intro m ρ m' ρ' _ hagree
  refine ⟨fun c => Cert.KernelIdeal.Gen.result m c, Cert.KernelIdeal.Gen.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact values_eq m c

theorem claim : Cert.Claim :=
  ⟨Cert.Kernel.Gen.facts, Cert.KernelIdeal.Gen.facts, Cert.ReferenceIdeal.Gen.facts, frame_kernel, frame_kernelIdeal,
    frame_referenceIdeal, trivial, algebraic⟩

end Cert.Proof

end
